-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smoothing" .f32 0x358637BD#32 ((1 / 1000000 : ℝ) : EReal)
  ∧ IdealRules.named_const.Statement Cert.KernelIdeal.κ "confidence" .f32 0x3F666666#32 ((9 / 10 : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_pre : Cert.Pre_pre.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pre.lean ====
abbrev S1024x100000 : Shape := ⟨2, ![1024, 100000]⟩
abbrev S1024 : Shape := ⟨1, ![1024]⟩
abbrev S_ : Shape := ⟨0, ![]⟩

class Facts : Prop where
  bcast_S_S1024x100000 : S_.BroadcastsInDim S1024x100000 (![] : Fin 0 → Fin S1024x100000.rank)
  reducesTo_S1024x100000_S_d0_1 : S1024x100000.ReducesTo [0, 1] S_
  h_S_ : 0 < S_.numel
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S1024x100000 .f32) (main_arg1 : IVec S1024 32) : IVec S_ 1 :=
  let main_v0 : FVec F S1024x100000 .f32 := Host.absf main_arg0
  let main_cst : FVec F S_ .f32 := constant S_ .f32 0x7F800000#32
  let main_v1 : FVec F S1024x100000 .f32 := broadcastInDim S1024x100000 ![] bcast_S_S1024x100000 main_cst
  let main_v2 : IVec S1024x100000 1 := cmpf .olt main_v0 main_v1
  let main_c : IVec S_ 1 := constantI S_ 1 1#1
  let main_v3 : IVec S_ 1 := (fun x v => Host.reduce IntOp.andi x v reducesTo_S1024x100000_S_d0_1 h_S_) main_v2 main_c
  let main_c_0 : IVec S_ 32 := constantI S_ 32 0#32
  let main_v4 : IVec S1024 32 := broadcastInDim S1024 ![] bcast_S_S1024 main_c_0
  let main_v5 : IVec S1024 1 := cmpi .sge main_arg1 main_v4
  let main_c_1 : IVec S_ 32 := constantI S_ 32 100000#32
  let main_v6 : IVec S1024 32 := broadcastInDim S1024 ![] bcast_S_S1024 main_c_1
  let main_v7 : IVec S1024 1 := cmpi .slt main_arg1 main_v6
  let main_v8 : IVec S1024 1 := andi main_v5 main_v7
  let main_c_2 : IVec S_ 1 := constantI S_ 1 1#1
  let main_v9 : IVec S_ 1 := (fun x v => Host.reduce IntOp.andi x v reducesTo_S1024_S_d0 h_S_) main_v8 main_c_2
  let main_v10 : IVec S_ 1 := andi main_v3 main_v9
  main_v10
-- ==== Kernel.lean ====
abbrev S1024x100000 : Shape := ⟨2, ![1024, 100000]⟩
abbrev S1024 : Shape := ⟨1, ![1024]⟩
abbrev S1024x1 : Shape := ⟨2, ![1024, 1]⟩
abbrev S1x1 : Shape := ⟨2, ![1, 1]⟩
abbrev S128x12800 : Shape := ⟨2, ![128, 12800]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S_ : Shape := ⟨0, ![]⟩

abbrev nBuf : Space → Nat
  | .hbm => 5
  | .vmem => 9
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S1024x1, .i32⟩
  | .hbm, ⟨3, _⟩ => ⟨S1x1, .f32⟩
  | .hbm, ⟨4, _⟩ => ⟨S_, .f32⟩
  | .local _ .vmem, ⟨0, _⟩ => ⟨S128x12800, .f32⟩
  | .local _ .vmem, ⟨1, _⟩ => ⟨S128x12800, .f32⟩
  | .local _ .vmem, ⟨2, _⟩ => ⟨S128x1, .i32⟩
  | .local _ .vmem, ⟨3, _⟩ => ⟨S128x1, .i32⟩
  | .local _ .vmem, ⟨4, _⟩ => ⟨S1x1, .f32⟩
  | .local _ .vmem, ⟨5, _⟩ => ⟨S128x1, .f32⟩
  | .local _ .vmem, ⟨6, _⟩ => ⟨S128x1, .f32⟩
  | .local _ .vmem, ⟨7, _⟩ => ⟨S128x1, .f32⟩
  | .local _ .vmem, ⟨8, _⟩ => ⟨S128x1, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v59 : BitVec 1 := Scalar.cmpi .eq arg1 c7_i32
  let v60 : BitVec 32 := Scalar.extui v59
  let c0_i32_29 : BitVec 32 := 0#32
  let v61 : BitVec 1 := Scalar.cmpi .ne v60 c0_i32_29
  v61

def k0_cond4 (i : grid0.Coords) : BitVec 1 :=
  let arg0 : BitVec 32 := BitVec.ofNat 32 (i 0).val
  let c7_i32_41 : BitVec 32 := 7#32
  let v79 : BitVec 1 := Scalar.cmpi .eq arg0 c7_i32_41
  let v80 : BitVec 32 := Scalar.extui v79
  let c0_i32_42 : BitVec 32 := 0#32
  let v81 : BitVec 1 := Scalar.cmpi .ne v80 c0_i32_42
  v81

def k0_cond5 (i : grid0.Coords) : BitVec 1 :=
  let arg0 : BitVec 32 := BitVec.ofNat 32 (i 0).val
  let c7_i32_43 : BitVec 32 := 7#32
  let v82 : BitVec 1 := Scalar.cmpi .ne arg0 c7_i32_43
  let v83 : BitVec 32 := Scalar.extui v82
  let c0_i32_44 : BitVec 32 := 0#32
  let v84 : BitVec 1 := Scalar.cmpi .ne v83 c0_i32_44
  v84

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]
-- ==== KernelIdeal.lean ====
variable {F : FTy → Type} [FloatOps F] [Named F]
def κ : String → Option EReal := fun
  | "confidence" => some ((9 / 10 : ℝ) : EReal)
  | "smoothing" => some ((1 / 1000000 : ℝ) : EReal)
  | _ => none
-- ==== ReferenceIdeal.lean ====
abbrev S1024x100000 : Shape := ⟨2, ![1024, 100000]⟩
abbrev S1024 : Shape := ⟨1, ![1024]⟩
abbrev S_ : Shape := ⟨0, ![]⟩
abbrev S1024x1 : Shape := ⟨2, ![1024, 1]⟩
abbrev S1024x2 : Shape := ⟨2, ![1024, 2]⟩

abbrev nBuf : Space → Nat
  | .hbm => 56
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S1024, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1024, .i32⟩
  | .hbm, ⟨8, _⟩ => ⟨S_, .f32⟩
  | .hbm, ⟨9, _⟩ => ⟨S1024x100000, .f32⟩
  | .hbm, ⟨10, _⟩ => ⟨S_, .i32⟩
  | .hbm, ⟨11, _⟩ => ⟨S1024, .i32⟩
  | .hbm, ⟨12, _⟩ => ⟨S1024, .i1⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S1024, .i32⟩
  | .hbm, ⟨17, _⟩ => ⟨S_, .i32⟩
  | .hbm, ⟨18, _⟩ => ⟨S1024, .i32⟩
  | .hbm, ⟨19, _⟩ => ⟨S1024, .i1⟩
  | .hbm, ⟨20, _⟩ => ⟨S_, .i32⟩
  | .hbm, ⟨21, _⟩ => ⟨S1024, .i32⟩
  | .hbm, ⟨22, _⟩ => ⟨S1024, .i32⟩
  | .hbm, ⟨23, _⟩ => ⟨S1024, .i32⟩
  | .hbm, ⟨24, _⟩ => ⟨S1024x1, .i32⟩
  | .hbm, ⟨25, _⟩ => ⟨S1024x1, .i32⟩
  | .hbm, ⟨26, _⟩ => ⟨S1024x2, .i32⟩
  | .hbm, ⟨27, _⟩ => ⟨S1024, .f32⟩
  | .hbm, ⟨28, _⟩ => ⟨S1024x100000, .f32⟩
  | .hbm, ⟨29, _⟩ => ⟨S_, .f32⟩
  | .hbm, ⟨30, _⟩ => ⟨S_, .f32⟩
  | .hbm, ⟨31, _⟩ => ⟨S1024x100000, .f32⟩
  | .hbm, ⟨32, _⟩ => ⟨S1024x100000, .f32⟩
  | .hbm, ⟨33, _⟩ => ⟨S_, .f32⟩
  | .hbm, ⟨34, _⟩ => ⟨S1024, .f32⟩
  | .hbm, ⟨35, _⟩ => ⟨S_, .f32⟩
  | .hbm, ⟨36, _⟩ => ⟨S1024, .f32⟩
  | .hbm, ⟨37, _⟩ => ⟨S1024, .f32⟩
  | .hbm, ⟨38, _⟩ => ⟨S1024x1, .f32⟩
  | .hbm, ⟨39, _⟩ => ⟨S1024x100000, .f32⟩
  | .hbm, ⟨40, _⟩ => ⟨S1024x100000, .f32⟩
  | .hbm, ⟨41, _⟩ => ⟨S1024x100000, .f32⟩
  | .hbm, ⟨42, _⟩ => ⟨S_, .f32⟩
  | .hbm, ⟨43, _⟩ => ⟨S1024, .f32⟩
  | .hbm, ⟨44, _⟩ => ⟨S1024x1, .f32⟩
  | .hbm, ⟨45, _⟩ => ⟨S1024x1, .f32⟩
  | .hbm, ⟨46, _⟩ => ⟨S1024x100000, .f32⟩
  | .hbm, ⟨47, _⟩ => ⟨S1024x100000, .f32⟩
  | .hbm, ⟨48, _⟩ => ⟨S1024x100000, .f32⟩
  | .hbm, ⟨49, _⟩ => ⟨S1024x100000, .f32⟩
  | .hbm, ⟨50, _⟩ => ⟨S_, .f32⟩
  | .hbm, ⟨51, _⟩ => ⟨S1024, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_cst_2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_3 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_4 : Ref sig .tc := ⟨.hbm, 17, rfl⟩
abbrev main_v9 : Ref sig .tc := ⟨.hbm, 18, rfl⟩
abbrev main_v10 : Ref sig .tc := ⟨.hbm, 19, rfl⟩
abbrev main_c_5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_6 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_cst : Ref sig .tc := ⟨.hbm, 33, rfl⟩
abbrev main_call0_v0 : Ref sig .tc := ⟨.hbm, 34, rfl⟩
abbrev main_call0_cst_0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_cst_1 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_cst_7 : Ref sig .tc := ⟨.hbm, 50, rfl⟩
abbrev main_v25 : Ref sig .tc := ⟨.hbm, 51, rfl⟩
abbrev main_cst_8 : Ref sig .tc := ⟨.hbm, 52, rfl⟩
abbrev main_v26 : Ref sig .tc := ⟨.hbm, 53, rfl⟩
abbrev main_cst_9 : Ref sig .tc := ⟨.hbm, 54, rfl⟩
abbrev main_v27 : Ref sig .tc := ⟨.hbm, 55, rfl⟩

abbrev nD : Nat := 1
abbrev τ : Topo := Topo.v7x

variable {F : FTy → Type} [FloatOps F]
-- ==== Proof.Decode.lean ====
module

public import proofs.«01_k».proof.Proof.Gen.Pre_pre
public import Idealize.ShloMosaic.Lib.Affine
public import Idealize.ShloMosaic.Lib.ReduceAll
public import Idealize.ShloMosaic.Lib.Pointwise
public import Idealize.ShloMosaic.PureOps.Ideal.Laws

@[expose] public section

noncomputable section

/-! What the precondition says of the arguments: the inputs are reals, and every target is a column. -/

namespace Cert.Decode

open Idealize.ShloMosaic Cert.Pre_pre Cert.Pre_pre.Gen

variable (x : FVec Ideal S1024x100000 .f32) (t : IVec S1024 32)

instance : Subsingleton S_.Idx := ⟨fun a _ => funext fun k => k.elim0⟩

/-- The precondition's two halves, element by element. -/
theorem halves (h : fn (F := Ideal) x t = fun _ => 1#1) :
    (∀ i, Ideal.cmp .olt (max (x i : EReal) (-(x i : EReal))) (Ideal.ofBits .f32 0x7F800000#32) = 1#1)
      ∧ ∀ j, IntOp.cmpi .sge (t j) 0#32 = 1#1 ∧ IntOp.cmpi .slt (t j) 100000#32 = 1#1 := by
  have h0 := congrFun h (fun k => k.elim0)
  unfold fn at h0
  obtain ⟨h1, h2⟩ := IntOp.andi_eq_one.1 h0
  refine ⟨fun i => ?_, fun j => ?_⟩
  · exact Host.reduce_andi_all _ _ _ _ _ h1 i
  · exact IntOp.andi_eq_one.1 (Host.reduce_andi_all _ _ _ _ _ h2 j)

/-- An extended real whose absolute value is below infinity is real. -/
theorem real_of_abs_lt (z : EReal) (h : Ideal.cmp .olt (max z (-z)) (Ideal.ofBits .f32 0x7F800000#32) = 1#1) : ∃ r : ℝ, z = (r : EReal) := by
  have htop : Ideal.ofBits .f32 0x7F800000#32 = ⊤ := by simp [Ideal.ofBits, Ideal.ieee]
  rw [htop] at h
  unfold Ideal.cmp at h
  by_cases c : max z (-z) < ⊤
  · obtain ⟨c1, c2⟩ := max_lt_iff.1 c
    have hb : z ≠ ⊥ := fun e => by rw [e] at c2; simp at c2
    exact ⟨z.toReal, (EReal.coe_toReal c1.ne hb).symm⟩
  · simp [c] at h

/-- Under the precondition the inputs are real numbers. -/
theorem inputs (h : fn (F := Ideal) x t = fun _ => 1#1) : ∃ X : Fin 1024 → Fin 100000 → ℝ, ∀ r c, x (ix2 r c) = ((X r c : ℝ) : EReal) := by
  choose X hX using fun (r : Fin 1024) (c : Fin 100000) => real_of_abs_lt _ ((halves x t h).1 (ix2 r c))
  exact ⟨X, hX⟩

/-- And the targets are columns. -/
theorem targets (h : fn (F := Ideal) x t = fun _ => 1#1) : ∃ T : Fin 1024 → Fin 100000, ∀ r, t (ix1 r) = BitVec.ofNat 32 (T r).val := by
  have key : ∀ r : Fin 1024, ∃ k : Fin 100000, t (ix1 r) = BitVec.ofNat 32 k.val := fun r => by
    obtain ⟨h1, h2⟩ := (halves x t h).2 (ix1 r)
    rw [IntOp.cmpi_sge, show (0#32 : BitVec 32).toInt = 0 from by decide] at h1
    rw [IntOp.cmpi_slt, show (100000#32 : BitVec 32).toInt = 100000 from by decide] at h2
    have hn : (t (ix1 r)).toInt = ((t (ix1 r)).toNat : ℤ) := by
      rw [BitVec.toInt_eq_toNat_cond] at h1 ⊢
      split
      · rfl
      · rename_i c
        rw [if_neg c] at h1
        have := (t (ix1 r)).isLt
        omega
    refine ⟨⟨(t (ix1 r)).toNat, by omega⟩, ?_⟩
    exact BitVec.eq_of_toNat_eq (by rw [BitVec.toNat_ofNat]; exact (Nat.mod_eq_of_lt (t (ix1 r)).isLt).symm)
  choose T hT using key
  exact ⟨T, hT⟩

end Cert.Decode

end
-- ==== Proof.Spec.lean ====
module

public import Idealize.ShloMosaic.PureOps.Ideal.Laws
public import Idealize.ShloMosaic.Lib.IdealHost
public import Idealize.ShloMosaic.Lib.Pointwise

@[expose] public section

noncomputable section

/-! The smoothed cross-entropy loss over the reals, and the facts about extended reals that both programs' proofs use. -/

namespace Cert.Spec

open Idealize.ShloMosaic

/-- One row's loss: the logarithm of the sum of exponentials, less a millionth of the row's sum, less nine tenths of the target's entry. -/
def lossRow {n : Nat} (x : Fin n → ℝ) (t : Fin n) : ℝ :=
  Real.log (∑ c, Real.exp (x c)) - 1 / 1000000 * ∑ c, x c - 9 / 10 * x t

/-- The loss of the batch: the mean over its 1024 rows. -/
def loss (X : Fin 1024 → Fin 100000 → ℝ) (T : Fin 1024 → Fin 100000) : ℝ :=
  (∑ r, lossRow (X r) (T r)) / 1024

/-- A finite sum of reals, taken in the extended reals, is the real sum. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The maximum of a nonempty finite family of reals, folded from minus infinity, is real. -/
theorem fold_max_real {ι : Type*} (s : Finset ι) (hs : s.Nonempty) (f : ι → ℝ) :
    ∃ μ : ℝ, s.fold max (⊥ : EReal) (fun i => ((f i : ℝ) : EReal)) = (μ : EReal) := by
  classical
  induction hs using Finset.Nonempty.cons_induction with
  | singleton a => exact ⟨f a, by simp⟩
  | cons a s ha hs ih =>
    obtain ⟨μ, e⟩ := ih
    exact ⟨max (f a) μ, by rw [Finset.fold_cons, e]; exact (EReal.coe_strictMono.monotone.map_max).symm⟩

/-- The ideal exponential of a real. -/
theorem exp_coe (r : ℝ) : Ideal.exp (r : EReal) = ((Real.exp r : ℝ) : EReal) := rfl

/-- The ideal logarithm of a positive real. -/
theorem log_coe (r : ℝ) (h : 0 < r) : Ideal.log (r : EReal) = ((Real.log r : ℝ) : EReal) := if_neg (not_le.2 h)

/-- The word of minus infinity. -/
theorem ofBits_bot : Ideal.ofBits .f32 0xFF800000#32 = (⊥ : EReal) := by
  simp [Ideal.ofBits, Ideal.ieee]

/-- The word of 10. -/
theorem ofBits_10 : Ideal.ofBits .f32 0x41200000#32 = ((10 : ℝ) : EReal) := by
  simp [Ideal.ofBits, Ideal.ieee, -EReal.coe_mul]; norm_num

/-- The word of 100000. -/
theorem ofBits_100000 : Ideal.ofBits .f32 0x47C35000#32 = ((100000 : ℝ) : EReal) := by
  simp [Ideal.ofBits, Ideal.ieee, -EReal.coe_mul]; norm_num

/-- The word of 1024. -/
theorem ofBits_1024 : Ideal.ofBits .f32 0x44800000#32 = ((1024 : ℝ) : EReal) := by
  simp [Ideal.ofBits, Ideal.ieee, -EReal.coe_mul]; norm_num

/-- The word of 1/1024. -/
theorem ofBits_inv1024 : Ideal.ofBits .f32 0x3A800000#32 = ((1 / 1024 : ℝ) : EReal) := by
  simp [Ideal.ofBits, Ideal.ieee, -EReal.coe_mul]; norm_num

/-- The entry of a matrix at row `r` and the reduced axis's coordinate `c`. -/
theorem lift_row {R N : Nat} (h : (⟨2, ![R, N]⟩ : Shape).Reduces [1] ⟨1, ![R]⟩) (r : Fin R) (c : Fin N) : h.lift (ix1 r) c = ix2 r c := by
  funext a
  match a with
  | ⟨0, _⟩ => rfl
  | ⟨1, _⟩ => rfl

/-- The maximum of a matrix's row, where the row is real, is real. -/
theorem rowMax_real {R N : Nat} [NeZero N] (x : FVec Ideal ⟨2, ![R, N]⟩ .f32) (h : (⟨2, ![R, N]⟩ : Shape).Reduces [1] ⟨1, ![R]⟩) (hφ : FKind.Formats .f32)
    (hacc : 0xFF800000#32 = FKind.maximumf.neutral .f32 hφ) (r : Fin R) (X : Fin N → ℝ) (hx : ∀ c, x (ix2 r c) = ((X c : ℝ) : EReal)) :
    ∃ μ : ℝ, multiReduction .maximumf [1] ⟨1, ![R]⟩ x 0xFF800000#32 h hφ hacc (ix1 r) = (μ : EReal) := by
  obtain ⟨μ, e⟩ := fold_max_real (Finset.univ : Finset (Fin N)) ⟨0, Finset.mem_univ _⟩ X
  have h2 : (x ∘ h.lift (ix1 r)) = fun c : Fin N => ((X c : ℝ) : EReal) := funext fun c => (congrArg x (lift_row h r c)).trans (hx c)
  have h3 := Ideal.multiReduction_maximumf_single x 0xFF800000#32 h hφ hacc (ix1 r)
  rw [h2] at h3
  refine ⟨μ, h3.trans (Eq.trans ?_ e)⟩
  exact congrArg (fun b : EReal => (Finset.univ : Finset (Fin N)).fold max b fun c => ((X c : ℝ) : EReal)) ofBits_bot

/-- A matrix's row sum is the sum over its columns. -/
theorem rowSum_apply {R N : Nat} (x : FVec Ideal ⟨2, ![R, N]⟩ .f32) (h : (⟨2, ![R, N]⟩ : Shape).Reduces [1] ⟨1, ![R]⟩) (hφ : FKind.Formats .f32)
    (hacc : 0x00000000#32 = FKind.add.neutral .f32 hφ) (r : Fin R) :
    multiReduction .add [1] ⟨1, ![R]⟩ x 0x00000000#32 h hφ hacc (ix1 r) = ∑ c : Fin N, x (ix2 r c) :=
  (Ideal.multiReduction_add_single x 0x00000000#32 h hφ hacc (ix1 r)).trans (Finset.sum_congr rfl fun c _ => congrArg x (lift_row h r c))

/-- A row sum of the host, from zero, is the sum over the row's columns. -/
theorem hostRowSum_apply {R N : Nat} (h' : (⟨2, ![R, N]⟩ : Shape).ReducesTo [1] ⟨1, ![R]⟩) (h : (⟨2, ![R, N]⟩ : Shape).Reduces [1] ⟨1, ![R]⟩)
    (x : (⟨2, ![R, N]⟩ : Shape).Idx → EReal) (r : Fin R) : Ideal.hostReduceAdd h' x (Ideal.ofBits .f32 0x00000000#32) (ix1 r) = ∑ c : Fin N, x (ix2 r c) := by
  rw [Ideal.hostReduceAdd_single h' h x _ (ix1 r), Ideal.ofBits_zero_f32, zero_add]
  exact Finset.sum_congr rfl fun c _ => congrArg x (lift_row h r c)

/-- The rows of a table, as its indices. -/
def rowIdx (n : Nat) : Fin n ≃ (⟨1, ![n]⟩ : Shape).Idx where
  toFun := ix1
  invFun j := j 0
  left_inv _ := rfl
  right_inv j := (eq_ix1 j).symm

/-- A row's sum of exponentials is positive. -/
theorem sum_exp_pos {n : Nat} [NeZero n] (x : Fin n → ℝ) : 0 < ∑ c, Real.exp (x c) :=
  Finset.sum_pos (fun _ _ => Real.exp_pos _) ⟨0, Finset.mem_univ _⟩

/-- Shifting every entry by `μ` divides the sum of exponentials by `exp μ`, so its logarithm falls by `μ`. -/
theorem log_sum_exp_sub {n : Nat} [NeZero n] (x : Fin n → ℝ) (μ : ℝ) :
    Real.log (∑ c, Real.exp (x c - μ)) = Real.log (∑ c, Real.exp (x c)) - μ := by
  have e : ∑ c, Real.exp (x c - μ) = (∑ c, Real.exp (x c)) * Real.exp (-μ) := by
    rw [Finset.sum_mul]
    exact Finset.sum_congr rfl fun c _ => by rw [sub_eq_add_neg, Real.exp_add]
  rw [e, Real.log_mul (sum_exp_pos x).ne' (Real.exp_pos _).ne', Real.log_exp]
  ring

/-- The plain form of a row's loss: minus the smoothed distribution against the log-probabilities, with nine tenths on the target and a
    millionth everywhere, summed over 100000 columns, is `lossRow`. -/
theorem sum_dist (x : Fin 100000 → ℝ) (t : Fin 100000) (μ : ℝ) :
    ∑ c, -((if c = t then (9 / 10 : ℝ) else 0) + 1 / 1000000) * (x c - μ - Real.log (∑ d, Real.exp (x d - μ))) = lossRow x t := by
  rw [log_sum_exp_sub]
  set L := Real.log (∑ d, Real.exp (x d)) with hL
  have e : ∀ c, -((if c = t then (9 / 10 : ℝ) else 0) + 1 / 1000000) * (x c - μ - (L - μ))
      = (if c = t then 9 / 10 * (L - x c) else 0) + (1 / 1000000 * L - 1 / 1000000 * x c) := fun c => by
    split <;> ring
  rw [Finset.sum_congr rfl fun c _ => e c, Finset.sum_add_distrib, Finset.sum_ite_eq' Finset.univ t, if_pos (Finset.mem_univ _),
    Finset.sum_sub_distrib, Finset.sum_const, ← Finset.mul_sum, Finset.card_univ, Fintype.card_fin, lossRow, ← hL]
  simp only [nsmul_eq_mul]
  push_cast
  ring

end Cert.Spec

end
-- ==== Proof.RowScatter.lean ====
module

public import Idealize.ShloMosaic.Lib.Routing.OpsSet
public import Idealize.ShloMosaic.Lib.ValueIdx

@[expose] public section

noncomputable section

/-! A scatter of one scalar per row position, each position two index words: the matrix entries it writes. -/

namespace Cert.RowScatter

open Idealize.ShloMosaic Idealize.ShloMosaic.Routing Idealize.ShloMosaic.ValueIdx

/-- The index word that update `a` reads for operand axis `q` is word `q` of row `a` of the position table. -/
theorem siIdx_rows {R C A : Nat} (d : ScatterDims (shape2 R C) (shape2 A 2) (shape1 A)) (hsd : d.scatterDimsToOperandDims = [0, 1])
    (hivd : d.indexVectorDim = 1) (a : Fin A) (q : Fin 2) (n : Fin d.scatterDimsToOperandDims.length) (hn : n.val = q.val) :
    d.siIdx (ix1 a) n = ix2 a q := by
  funext b
  apply Fin.ext
  match b with
  | ⟨0, _⟩ =>
    unfold ScatterDims.siIdx
    rw [dif_neg (by rw [hivd]; exact Nat.zero_ne_one)]
    unfold ScatterDims.siCoord
    simp only [Fin.val_cast]
    have e : ∀ z : Fin 1, (ix1 a z).val = a.val := fun z => by
      obtain rfl : z = 0 := Subsingleton.elim _ _
      rfl
    exact e _
  | ⟨1, _⟩ =>
    unfold ScatterDims.siIdx
    rw [dif_pos (by rw [hivd])]
    exact hn

/-- Update `a` lands at `(r, c)` exactly when its two index words, read signed, are `r` and `c`. -/
theorem lands_rows {R C A w : Nat} (d : ScatterDims (shape2 R C) (shape2 A 2) (shape1 A)) (hiw : d.insertedWindowDims = [0, 1])
    (hsd : d.scatterDimsToOperandDims = [0, 1]) (hivd : d.indexVectorDim = 1) (idx : IVec (shape2 A 2) w) (a : Fin A) (r : Fin R) (c : Fin C) :
    d.resultIdx? (ix1 a) idx = some (ix2 r c) ↔ (idx (ix2 a 0)).toInt = r.val ∧ (idx (ix2 a 1)).toInt = c.val := by
  have hwin : ∀ q : Fin 2, d.window (ix1 a) q = 0 := fun q => by
    unfold ScatterDims.window
    have hq : q ∈ d.insertedWindowDims := by rw [hiw]; fin_cases q <;> simp
    have hk : q ∉ d.sKept := fun h => absurd hq (of_decide_eq_true (List.mem_filter.1 h).2)
    exact dif_neg hk
  have hstart : ∀ q : Fin 2, d.start (ix1 a) idx q = (idx (ix2 a q)).toInt := fun q => by
    have hq : q ∈ d.scatterDimsToOperandDims := by rw [hsd]; fin_cases q <;> simp
    unfold ScatterDims.start
    rw [dif_pos hq, siIdx_rows d hsd hivd a q _ (by
      show List.idxOf q d.scatterDimsToOperandDims = q.val
      rw [hsd]
      fin_cases q <;> rfl)]
  rw [resultIdx?_ix2, hstart, hstart, hwin, hwin]
  simp only [Nat.cast_zero, add_zero]

/-- Where row `a` of the position table holds `a` and its own column `T a`, the scatter writes row `r`'s update at column `T r`, and leaves the rest of the row. -/
theorem scatter_rows {α : Type} {R C : Nat} (d : ScatterDims (shape2 R C) (shape2 R 2) (shape1 R)) (hiw : d.insertedWindowDims = [0, 1])
    (hsd : d.scatterDimsToOperandDims = [0, 1]) (hivd : d.indexVectorDim = 1) (x0 : (shape2 R C).Idx → α) (idx : IVec (shape2 R 2) 32)
    (upd : (shape1 R).Idx → α) (T : Fin R → Fin C) (h0 : ∀ a, (idx (ix2 a 0)).toInt = a.val) (h1 : ∀ a, (idx (ix2 a 1)).toInt = (T a).val)
    (r : Fin R) (c : Fin C) :
    Host.scatter d (fun _ b => b) x0 idx upd (ix2 r c) = if c = T r then upd (ix1 r) else x0 (ix2 r c) := by
  have key : ∀ a, d.resultIdx? (ix1 a) idx = some (ix2 r c) ↔ a = r ∧ T a = c := fun a => by
    rw [lands_rows d hiw hsd hivd, h0, h1, Fin.ext_iff, Fin.ext_iff]
    omega
  by_cases h : c = T r
  · rw [if_pos h]
    refine scatter_set_hit d x0 idx upd _ _ (fun k hk => ?_) (ix1 r) ((key r).2 ⟨rfl, h.symm⟩)
    rw [eq_ix1 k] at hk ⊢
    have e := ((key _).1 hk).1
    rw [e]
    rfl
  · rw [if_neg h]
    refine scatter_set_miss d x0 idx upd _ fun k hk => h ?_
    rw [eq_ix1 k] at hk
    obtain ⟨ha, hT⟩ := (key _).1 hk
    rw [← hT, ha]

end Cert.RowScatter

end
-- ==== Proof.RefValue.lean ====
module

public import proofs.«01_k».proof.Proof.Gen.ReferenceIdeal.Run
public import proofs.«01_k».proof.Proof.Spec
public import proofs.«01_k».proof.Proof.RowScatter
public import Idealize.ShloMosaic.Lib.KernelVsHost

@[expose] public section

noncomputable section

/-! The reference's result at the ideal instance: the batch's loss, where the input is finite and the targets are columns. -/

namespace Cert.RefValue

open Cert.ReferenceIdeal Cert.ReferenceIdeal.Gen Idealize.ShloMosaic Idealize.ShloMosaic.TcCoe Idealize.SL.Sem Idealize.ShloMosaic.Routing

variable (x : FVec Ideal S1024x100000 .f32) (t : IVec S1024 32)

/-- A rank-1 iota or target table as the reference wraps it: an index below zero gets `n` added. -/
def wrapped (n : BitVec 32) (v : IVec S1024 32) : IVec S1024x1 32 :=
  broadcastInDim S1024x1 ![0] bcast_S1024_S1024x1_0 (select (cmpi .slt v (broadcastInDim S1024 ![] bcast_S_S1024 (constantI S_ 32 0#32))) (addi v (broadcastInDim S1024 ![] bcast_S_S1024 (constantI S_ 32 n))) v)

/-- The reference's scatter positions: each row's number beside its target. -/
def positions : IVec S1024x2 32 :=
  concatenate S1024x2 1 [⟨S1024x1, wrapped 1024#32 (iotaInDim S1024 32 0)⟩, ⟨S1024x1, wrapped 100000#32 t⟩] concatenates_S1024x1_S1024x1_S1024x2_d1

/-- The reference's smoothing, one tenth. -/
def tenth : FVec Ideal S_ .f32 := Host.divf (constant S_ .f32 0x3F800000#32) (constant S_ .f32 0x41200000#32)

/-- The reference's smoothed target distribution. -/
def dist : FVec Ideal S1024x100000 .f32 :=
  addf (Host.scatter scatter_S1024x100000_S1024x2_S1024_n_01_01_1 (fun _ b => b) (broadcastInDim S1024x100000 ![] bcast_S_S1024x100000 (constant S_ .f32 0x00000000#32)) (positions t) (broadcastInDim S1024 ![] bcast_S_S1024 (subf (constant S_ .f32 0x3F800000#32) tenth)))
    (broadcastInDim S1024x100000 ![] bcast_S_S1024x100000 (Host.divf tenth (constant S_ .f32 0x47C35000#32)))

/-- A column of one word per row, stretched along the rows. -/
def stretch (v : FVec Ideal S1024x1 .f32) : FVec Ideal S1024x100000 .f32 := broadcastInDim S1024x100000 ![0, 1] bcast_S1024x1_S1024x100000_0_1 v

/-- A table with one word per row, as a column. -/
def column (v : FVec Ideal S1024 .f32) : FVec Ideal S1024x1 .f32 := broadcastInDim S1024x1 ![0] bcast_S1024_S1024x1_0 v

/-- The reference's row maxima. -/
def rowMax : FVec Ideal S1024 .f32 :=
  maximumf (broadcastInDim S1024 ![] bcast_S_S1024 (constant S_ .f32 0xFF800000#32)) (Host.reduce FloatOps.maximumf x (constant S_ .f32 0xFF800000#32) reducesTo_S1024x100000_S1024_d1 h_S_)

/-- The rows less their maxima. -/
def shifted : FVec Ideal S1024x100000 .f32 := subf x (stretch (column (rowMax x)))

/-- The reference's row sums. -/
def rowSum (y : FVec Ideal S1024x100000 .f32) : FVec Ideal S1024 .f32 := Host.reduceAdd y (constant S_ .f32 0x00000000#32) reducesTo_S1024x100000_S1024_d1 h_S_

/-- The reference's log-probabilities. -/
def logProbs : FVec Ideal S1024x100000 .f32 := subf (shifted x) (stretch (Host.log (column (rowSum (Host.exp (shifted x))))))

/-- The reference's result as its operations compose it. -/
def result : FVec Ideal S_ .f32 :=
  Host.divf (Host.reduceAdd (rowSum (mulf (Host.negf (dist t)) (logProbs x))) (constant S_ .f32 0x00000000#32) reducesTo_S1024_S_d0 h_S_) (constant S_ .f32 0x44800000#32)

/-- The column axis of the table reduces away to the rows. -/
theorem reduces_cols : (S1024x100000 : Shape).Reduces [1] S1024 := by decide

/-- A row sum of the reference is the sum over the row's columns. -/
theorem rowSum_apply (y : FVec Ideal S1024x100000 .f32) (r : Fin 1024) : rowSum y (ix1 r) = ∑ c : Fin 100000, y (ix2 r c) :=
  Spec.hostRowSum_apply reducesTo_S1024x100000_S1024_d1 reduces_cols y r

/-- A stretched column reads its row's word. -/
theorem stretch_id (v : FVec Ideal S1024 .f32) (r : Fin 1024) (c : Fin 100000) : stretch (column v) (ix2 r c) = v (ix1 r) := by
  unfold stretch column
  pointwise

/-- A stretched column of logarithms reads the logarithm of its row's word. -/
theorem stretch_log (v : FVec Ideal S1024 .f32) (r : Fin 1024) (c : Fin 100000) : stretch (Host.log (column v)) (ix2 r c) = Ideal.log (v (ix1 r)) := by
  unfold stretch column
  pointwise

/-- A table's maximum with minus infinity is the table. -/
theorem max_bot (v : FVec Ideal S1024 .f32) (j : S1024.Idx) :
    maximumf (broadcastInDim S1024 ![] bcast_S_S1024 (constant S_ .f32 0xFF800000#32)) v j = v j := by
  have h : maximumf (broadcastInDim S1024 ![] bcast_S_S1024 (constant S_ .f32 0xFF800000#32)) v j = max (Ideal.ofBits .f32 0xFF800000#32) (v j) := rfl
  rw [h, Spec.ofBits_bot]
  exact max_eq_right bot_le

/-- Where a row is real, its maximum is real. -/
theorem rowMax_real (X : Fin 1024 → Fin 100000 → ℝ) (hx : ∀ r c, x (ix2 r c) = ((X r c : ℝ) : EReal)) (r : Fin 1024) :
    ∃ μ : ℝ, rowMax x (ix1 r) = (μ : EReal) := by
  obtain ⟨μ, e⟩ := Spec.rowMax_real x reduces_cols (.inl rfl) rfl r (X r) (hx r)
  refine ⟨μ, (max_bot _ (ix1 r)).trans ?_⟩
  exact (congrFun (hostReduce_maximumf_eq_multiReduction x _ reducesTo_S1024x100000_S1024_d1 h_S_ reduces_cols (.inl rfl) rfl) (ix1 r)).trans e

/-- Where the rows are real, the log-probabilities are the shifted entries less the logarithm of the sum of their exponentials. -/
theorem logProbs_apply (X : Fin 1024 → Fin 100000 → ℝ) (hx : ∀ r c, x (ix2 r c) = ((X r c : ℝ) : EReal)) (r : Fin 1024) (μ : ℝ)
    (hμ : rowMax x (ix1 r) = (μ : EReal)) (c : Fin 100000) :
    logProbs x (ix2 r c) = ((X r c - μ - Real.log (∑ d, Real.exp (X r d - μ)) : ℝ) : EReal) := by
  have hs : ∀ d, shifted x (ix2 r d) = ((X r d - μ : ℝ) : EReal) := fun d => by
    have h1 : shifted x (ix2 r d) = x (ix2 r d) - stretch (column (rowMax x)) (ix2 r d) := rfl
    rw [h1, hx, stretch_id, hμ, EReal.coe_sub]
  have he : rowSum (Host.exp (shifted x)) (ix1 r) = ((∑ d, Real.exp (X r d - μ) : ℝ) : EReal) := by
    rw [rowSum_apply, ← Spec.coe_sum]
    refine Finset.sum_congr rfl fun d _ => ?_
    exact (congrArg Ideal.exp (hs d)).trans (Spec.exp_coe _)
  have h1 : logProbs x (ix2 r c) = shifted x (ix2 r c) - stretch (Host.log (column (rowSum (Host.exp (shifted x))))) (ix2 r c) := rfl
  rw [h1, hs, stretch_log, he, Spec.log_coe _ (Spec.sum_exp_pos fun d => X r d - μ), ← EReal.coe_sub]

/-- A wrapped table of words below 2³¹ is the table. -/
theorem wrapped_apply (n : BitVec 32) (v : IVec S1024 32) (r : Fin 1024) (h : (v (ix1 r)).toNat < 2 ^ 31) : wrapped n v (ix2 r 0) = v (ix1 r) := by
  unfold wrapped
  pointwise
  exact wrap_of_lt _ _ h

/-- The positions: a row's number, then its target. -/
theorem positions_apply (h : ∀ r, (t (ix1 r)).toNat < 2 ^ 31) (r : Fin 1024) :
    positions t (ix2 r 0) = BitVec.ofNat 32 r.val ∧ positions t (ix2 r 1) = t (ix1 r) := by
  constructor
  · have e : positions t (ix2 r 0) = wrapped 1024#32 (iotaInDim S1024 32 0) (ix2 r 0) := by unfold positions; pointwise
    rw [e, wrapped_apply]
    · rfl
    · show (BitVec.ofNat 32 r.val).toNat < _
      rw [BitVec.toNat_ofNat]
      omega
  · have e : positions t (ix2 r 1) = wrapped 100000#32 t (ix2 r 0) := by unfold positions; pointwise
    rw [e, wrapped_apply _ _ _ (h r)]

/-- One tenth, exactly. -/
theorem tenth_apply (i : S_.Idx) : tenth i = ((1 / 10 : ℝ) : EReal) := by
  have h : tenth i = Ideal.div (Ideal.ofBits .f32 0x3F800000#32) (Ideal.ofBits .f32 0x41200000#32) := rfl
  rw [h, Spec.ofBits_10, Ideal.div_coe (by norm_num), Ideal.ofBits_one_f32, one_mul]

/-- The smoothed distribution: nine tenths on the target, and a millionth everywhere. -/
theorem dist_apply (T : Fin 1024 → Fin 100000) (ht : ∀ r, t (ix1 r) = BitVec.ofNat 32 (T r).val) (r : Fin 1024) (c : Fin 100000) :
    dist t (ix2 r c) = (((if c = T r then (9 / 10 : ℝ) else 0) + 1 / 1000000 : ℝ) : EReal) := by
  have hT : ∀ a, (BitVec.ofNat 32 (T a).val).toNat < 2 ^ 31 := fun a => by
    have := (T a).isLt
    rw [BitVec.toNat_ofNat]
    omega
  have hp := positions_apply t (fun a => by rw [ht]; exact hT a)
  have hs : Host.scatter scatter_S1024x100000_S1024x2_S1024_n_01_01_1 (fun _ b => b)
      (broadcastInDim S1024x100000 ![] bcast_S_S1024x100000 (constant S_ .f32 0x00000000#32) : FVec Ideal S1024x100000 .f32) (positions t)
      (broadcastInDim S1024 ![] bcast_S_S1024 (subf (constant S_ .f32 0x3F800000#32) tenth)) (ix2 r c)
      = if c = T r then (broadcastInDim S1024 ![] bcast_S_S1024 (subf (constant S_ .f32 0x3F800000#32) tenth) : FVec Ideal S1024 .f32) (ix1 r)
        else (broadcastInDim S1024x100000 ![] bcast_S_S1024x100000 (constant S_ .f32 0x00000000#32) : FVec Ideal S1024x100000 .f32) (ix2 r c) :=
    RowScatter.scatter_rows _ rfl rfl rfl _ (positions t) _ T
      (fun a => (congrArg BitVec.toInt (hp a).1).trans (StableHlo.Predicate.toInt_ofNat_small _ (by have := a.isLt; omega)))
      (fun a => (congrArg BitVec.toInt ((hp a).2.trans (ht a))).trans (StableHlo.Predicate.toInt_ofNat_small _ (by have := (T a).isLt; omega))) r c
  have h9 : (broadcastInDim S1024 ![] bcast_S_S1024 (subf (constant S_ .f32 0x3F800000#32) tenth) : FVec Ideal S1024 .f32) (ix1 r) = ((9 / 10 : ℝ) : EReal) := by
    refine (ValueIdx.broadcastInDim_scalar_apply bcast_S_S1024 _ _).trans ?_
    have h : (subf (constant S_ .f32 0x3F800000#32) tenth : FVec Ideal S_ .f32) ValueIdx.ix0 = Ideal.ofBits .f32 0x3F800000#32 - tenth ValueIdx.ix0 := rfl
    rw [h, tenth_apply, Ideal.ofBits_one_f32, ← EReal.coe_one, ← EReal.coe_sub]
    norm_num
  have h6 : (broadcastInDim S1024x100000 ![] bcast_S_S1024x100000 (Host.divf tenth (constant S_ .f32 0x47C35000#32)) : FVec Ideal S1024x100000 .f32) (ix2 r c) = ((1 / 1000000 : ℝ) : EReal) := by
    refine (ValueIdx.broadcastInDim_scalar_apply bcast_S_S1024x100000 _ _).trans ?_
    have h : (Host.divf tenth (constant S_ .f32 0x47C35000#32) : FVec Ideal S_ .f32) ValueIdx.ix0 = Ideal.div (tenth ValueIdx.ix0) (Ideal.ofBits .f32 0x47C35000#32) := rfl
    rw [h, tenth_apply, Spec.ofBits_100000, Ideal.div_coe (by norm_num), ← EReal.coe_mul]
    norm_num
  have h0 : (broadcastInDim S1024x100000 ![] bcast_S_S1024x100000 (constant S_ .f32 0x00000000#32) : FVec Ideal S1024x100000 .f32) (ix2 r c) = 0 :=
    (ValueIdx.broadcastInDim_scalar_apply bcast_S_S1024x100000 _ _).trans Ideal.ofBits_zero_f32
  unfold dist
  refine (congrArg₂ (fun a b : EReal => a + b) hs h6).trans ?_
  rw [h9, h0, EReal.coe_add]
  refine congrArg (fun z : EReal => z + ((1 / 1000000 : ℝ) : EReal)) ?_
  split <;> simp

/-- The reference's result is the batch's loss. -/
theorem result_eq (X : Fin 1024 → Fin 100000 → ℝ) (T : Fin 1024 → Fin 100000) (hx : ∀ r c, x (ix2 r c) = ((X r c : ℝ) : EReal))
    (ht : ∀ r, t (ix1 r) = BitVec.ofNat 32 (T r).val) : result x t = fun _ => ((Spec.loss X T : ℝ) : EReal) := by
  have hrow : ∀ r, rowSum (mulf (Host.negf (dist t)) (logProbs x)) (ix1 r) = ((Spec.lossRow (X r) (T r) : ℝ) : EReal) := fun r => by
    obtain ⟨μ, hμ⟩ := rowMax_real x X hx r
    rw [rowSum_apply, ← Spec.sum_dist (X r) (T r) μ, ← Spec.coe_sum]
    refine Finset.sum_congr rfl fun c _ => ?_
    have h : (mulf (Host.negf (dist t)) (logProbs x) : FVec Ideal S1024x100000 .f32) (ix2 r c) = -(dist t (ix2 r c)) * logProbs x (ix2 r c) := rfl
    rw [h, dist_apply t T ht, logProbs_apply x X hx r μ hμ, ← EReal.coe_neg, ← EReal.coe_mul]
  funext i
  have h1 : result x t i = Ideal.div (Ideal.hostReduceAdd reducesTo_S1024_S_d0 (rowSum (mulf (Host.negf (dist t)) (logProbs x))) (Ideal.ofBits .f32 0x00000000#32) i)
      (Ideal.ofBits .f32 0x44800000#32) := rfl
  have h2 : ∑ j : S1024.Idx, rowSum (mulf (Host.negf (dist t)) (logProbs x)) j = ((∑ r, Spec.lossRow (X r) (T r) : ℝ) : EReal) := by
    rw [← Spec.coe_sum, ← Equiv.sum_comp (Spec.rowIdx 1024)]
    exact Finset.sum_congr rfl fun r _ => hrow r
  rw [h1, Ideal.hostReduceAdd_total reducesTo_S1024_S_d0 (fun b => b.elim0), h2, Spec.ofBits_1024, Ideal.div_coe (by norm_num), Ideal.ofBits_zero_f32, zero_add,
    ← EReal.coe_mul, Spec.loss, mul_one_div]

/-- Every run of the reference ends with the batch's loss in its result, where the input is finite and the targets are columns. -/
theorem run (m : (ℓ : Loc nD τ sig) → Buf (Elt Ideal) ℓ) (ρ : Dev nD → PrngReg) (X : Fin 1024 → Fin 100000 → ℝ) (T : Fin 1024 → Fin 100000)
    (hx : ∀ (c : Dev nD) r j, (m ((c.tc : Thread nD τ).loc main_arg0) : FVec Ideal S1024x100000 .f32) (ix2 r j) = ((X r j : ℝ) : EReal))
    (ht : ∀ (c : Dev nD) r, (m ((c.tc : Thread nD τ).loc main_arg1) : IVec S1024 32) (ix1 r) = BitVec.ofNat 32 (T r).val) :
    θ_run defs (onTc (τ := τ) (main (F := Ideal))) ⟨m, fun _ => 0, ρ⟩ fun r => ∀ c : Dev nD,
      r.2.mem ((c.tc : Thread nD τ).loc main_v27) = (fun _ => ((Spec.loss X T : ℝ) : EReal) : FVec Ideal S_ .f32) :=
  (θ_run defs _ _).mono (fun _ h c => (h c).1.trans (result_eq _ _ X T (hx c) (ht c))) (Value.run m ρ)

end Cert.RefValue

end
-- ==== Proof.Owned.lean ====
module

public import Idealize.ShloMosaic.Lib.Memref
public import Idealize.ShloMosaic.Rules.Step

@[expose] public section

noncomputable section

/-! Loads and stores of an entire buffer that a memref names, stated on what the memref owns. -/

namespace Cert.Owned

open Idealize.ShloMosaic Idealize.ShloMosaic.TcCoe
open Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Ix : Type} [DecidableEq Ix] {Val : EltTy → Type} {Name : Type} [DecidableEq Name]
  {U : Type} [URA U] {Lvl : Type} {Λ : Labels}

local notation "𝕄" => MT nD τ sig Ix Val Name U Lvl

variable [Preorder Lvl] {defs : Defs nD τ sig Val Λ} (𝒱 : Variants) (c : Thread nD τ) (bd : Option 𝒱.V) {Γ : PendingWaitsCtx sig Ix} (E : Set Name)
  {cs : CoreSpace} {s : Shape} {e : EltTy} {α : Type} (Q : α → sProp (MT nD τ sig Ix Val Name U Lvl))

/-- A load of the entire buffer, at offsets that are all zero, continues at the contents and leaves them in place. -/
theorem load_owns (m : Memref sig c.2.kind cs s e) (hm : m.IsWhole) {off : Fin s.rank → Nat} (hz : off = fun _ => 0) (inb : ∀ a, off a + s.size a ≤ s.size a)
    (hl : m.view.LoadsAt (Rect.unit off s.size inb).toLoadRect) (k : (s.Idx → Val e) → Prog (TpuEff nD τ sig Val Λ c.2) α) (X : s.Idx → Val e) :
    (owns c m fullShare X : sProp 𝕄) ⊢ iprop(((owns c m fullShare X : sProp 𝕄) -∗ wp frame (wpE' defs 𝒱 c bd Γ) E (k X) Q)
      -∗ wp frame (wpE' defs 𝒱 c bd Γ) E (.op (.load m (Rect.unit off s.size inb).toLoadRect hl) k) Q) := by
  obtain ⟨b, hb, rfl, rfl, h⟩ := hm
  obtain ⟨bsp, bi, bk⟩ := b
  subst hz
  cases hb
  cases h
  rw [owns_whole]
  have h := wp_load (defs := defs) (Γ := Γ) 𝒱 c bd E (Q := Q) (q := fullShare) (f := X) (hl := hl) (k := k) (S := Finset.univ) (Finset.subset_univ _)
  rwa [Memref.readAt_unit_zero Val _ rfl] at h

/-- A store over the entire buffer, at offsets that are all zero, leaves the stored contents. -/
theorem store_owns (m : Memref sig c.2.kind cs s e) (hm : m.IsWhole) {off : Fin s.rank → Nat} (hz : off = fun _ => 0) (inb : ∀ a, off a + s.size a ≤ s.size a)
    (w : s.Idx → Val e) (hx : (m.access (Rect.unit off s.size inb)).Stores Finset.univ) (hu) (k : PUnit → Prog (TpuEff nD τ sig Val Λ c.2) α) (X : s.Idx → Val e) :
    (owns c m fullShare X : sProp 𝕄) ⊢ iprop(((owns c m fullShare w : sProp 𝕄) -∗ wp frame (wpE' defs 𝒱 c bd Γ) E (k ⟨⟩) Q)
      -∗ wp frame (wpE' defs 𝒱 c bd Γ) E (.op (.store m (Rect.unit off s.size inb) w Finset.univ hx hu) k) Q) := by
  obtain ⟨b, hb, rfl, rfl, h⟩ := hm
  obtain ⟨bsp, bi, bk⟩ := b
  subst hz
  cases hb
  cases h
  rw [owns_whole, owns_whole]
  have h := wp_store (defs := defs) (Γ := Γ) 𝒱 c bd E (Q := Q) (f := X) (w := w) (Mk := Finset.univ) (hx := hx) (hm := hu) (k := k) (S := Finset.univ) (Finset.subset_univ _)
  rwa [Memref.write_access_unit_zero_univ Val _ rfl] at h

end Cert.Owned

end
-- ==== Proof.Body.lean ====
module

public import proofs.«01_k».proof.Proof.Owned
public import proofs.«01_k».proof.Proof.Gen.KernelIdeal.Launch
public import proofs.«01_k».proof.Proof.Gen.KernelIdeal.Points
public import proofs.«01_k».proof.Proof.Gen.KernelIdeal.Skeleton
public import Idealize.ShloMosaic.Lib.Tactic

@[expose] public section

noncomputable section

/-! What one grid point of the kernel does to the buffers it holds, at any float values. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- No loop of the kernel asks for a variant. -/
abbrev 𝒱₀ : Variants := Variants.none

/-- The condition under which a grid point starts a new row block: its column block is the first. -/
abbrev cond1 (i : grid0.Coords) : BitVec 1 :=
  Scalar.cmpi .ne (Scalar.extui (Scalar.cmpi .eq (BitVec.ofNat 32 (i 1).val) 0#32) : BitVec 32) 0#32

/-- The scratch contents that a grid point works from: `z` at the start of a row block, else what is there. -/
def start (i : grid0.Coords) (z f : Vec F S128x1 .f32) : Vec F S128x1 .f32 := if cond1 i = 1#1 then z else f

/-- The running maximum that a grid point leaves, from the block `x` and the maximum found. -/
def mNext (i : grid0.Coords) (x : Vec F S128x12800 .f32) (m : Vec F S128x1 .f32) : Vec F S128x1 .f32 :=
  k0_pay1 (k0_pay16 i x (start i k0_pay7 m))
/-- The running sum of exponentials that it leaves. -/
def sNext (i : grid0.Coords) (x : Vec F S128x12800 .f32) (m s : Vec F S128x1 .f32) : Vec F S128x1 .f32 :=
  k0_pay17 i x (start i k0_pay7 m) (start i k0_pay8 s)
/-- The running sum of entries that it leaves. -/
def uNext (i : grid0.Coords) (x : Vec F S128x12800 .f32) (u : Vec F S128x1 .f32) : Vec F S128x1 .f32 :=
  k0_pay2 x (k0_pay14 i) (start i k0_pay9 u)
/-- The running entry at the target that it leaves. -/
def wNext (i : grid0.Coords) (x : Vec F S128x12800 .f32) (t : Vec F S128x1 .i32) (w : Vec F S128x1 .f32) : Vec F S128x1 .f32 :=
  k0_pay3 x (k0_pay12 t) (k0_pay13 i) (start i k0_pay10 w)
/-- The result's contents that a grid point works from: zero at the first point, else what is there. -/
def oStart (i : grid0.Coords) (o : Vec F S1x1 .f32) : Vec F S1x1 .f32 := if k0_cond2 i = 1#1 then k0_pay11 else o
/-- The result's contents after a row block's end, where it is the last one. -/
def oLast (i : grid0.Coords) (m s u w : Vec F S128x1 .f32) (o : Vec F S1x1 .f32) : Vec F S1x1 .f32 :=
  if k0_cond4 i = 1#1 then k0_pay5 m s u w o else o
/-- The result's contents after a row block's end, where it is not the last one. -/
def oMore (i : grid0.Coords) (m s u w : Vec F S128x1 .f32) (o : Vec F S1x1 .f32) : Vec F S1x1 .f32 :=
  if k0_cond5 i = 1#1 then k0_pay6 m s u w o else o
/-- The result's contents that a grid point leaves, from the four scratch contents it left. -/
def oNext (i : grid0.Coords) (m s u w : Vec F S128x1 .f32) (o : Vec F S1x1 .f32) : Vec F S1x1 .f32 :=
  if k0_cond3 i = 1#1 then oMore i m s u w (oLast i m s u w (oStart i o)) else oStart i o

/-- Offsets written as two zeros are zero on every axis. -/
theorem zeros2 : (![0, 0] : Fin 2 → Nat) = fun _ => 0 := funext fun a => by fin_cases a <;> rfl

section Triples

variable (c : Dev nD) (E : Set ℕ) (i : grid0.Coords)
  (a2 : Memref sig .tc .vmem S128x12800 .f32) (h2 : a2.IsWhole) (a3 : Memref sig .tc .vmem S128x1 .i32) (h3 : a3.IsWhole)
  (a4 : Memref sig .tc .vmem S1x1 .f32) (h4 : a4.IsWhole) (a5 : Memref sig .tc .vmem S128x1 .f32) (h5 : a5.IsWhole)
  (a6 : Memref sig .tc .vmem S128x1 .f32) (h6 : a6.IsWhole) (a7 : Memref sig .tc .vmem S128x1 .f32) (h7 : a7.IsWhole)
  (a8 : Memref sig .tc .vmem S128x1 .f32) (h8 : a8.IsWhole)
  (x : Vec F S128x12800 .f32) (t : Vec F S128x1 .i32) (o : Vec F S1x1 .f32) (m s u w : Vec F S128x1 .f32)

/-- The seven buffers a grid point holds, at given contents. -/
def held (x : Vec F S128x12800 .f32) (t : Vec F S128x1 .i32) (o : Vec F S1x1 .f32) (m s u w : Vec F S128x1 .f32) : sProp 𝕄 :=
  iprop(owns (c : Thread nD τ) a2 fullShare x ∗ owns (c : Thread nD τ) a3 fullShare t ∗ owns (c : Thread nD τ) a4 fullShare o
    ∗ owns (c : Thread nD τ) a5 fullShare m ∗ owns (c : Thread nD τ) a6 fullShare s ∗ owns (c : Thread nD τ) a7 fullShare u
    ∗ owns (c : Thread nD τ) a8 fullShare w)

/-- One load of a held buffer, in the proof mode: the buffer comes back as it was. -/
theorem load_step {sp : CoreSpace} {sh : Shape} {e : EltTy} {α : Type} (Q : α → sProp 𝕄) (a : Memref sig .tc sp sh e) (ha : a.IsWhole) {off : Fin sh.rank → Nat} (hz : off = fun _ => 0)
    (inb : ∀ d, off d + sh.size d ≤ sh.size d) (hl) (k : (sh.Idx → Elt F e) → Prog (TpuEff nD τ sig (Elt F) Λ₀ .tc) α) (X : sh.Idx → Elt F e) :
    (owns (c : Thread nD τ) a fullShare X : sProp 𝕄) ⊢ iprop(((owns (c : Thread nD τ) a fullShare X : sProp 𝕄) -∗ wp frame (wpE (defs₀ (F := F)) 𝒱₀ c none) E (k X) Q)
      -∗ wp frame (wpE (defs₀ (F := F)) 𝒱₀ c none) E (.op (.load a (Rect.unit off sh.size inb).toLoadRect hl) k) Q) :=
  Owned.load_owns 𝒱₀ (c : Thread nD τ) none E Q a ha hz inb hl k X

/-- One store over a held buffer, in the proof mode: the buffer comes back at what was stored. -/
theorem store_step {sp : CoreSpace} {sh : Shape} {e : EltTy} {α : Type} (Q : α → sProp 𝕄) (a : Memref sig .tc sp sh e) (ha : a.IsWhole) {off : Fin sh.rank → Nat} (hz : off = fun _ => 0)
    (inb : ∀ d, off d + sh.size d ≤ sh.size d) (Y : sh.Idx → Elt F e) (hx) (hu) (k : PUnit → Prog (TpuEff nD τ sig (Elt F) Λ₀ .tc) α) (X : sh.Idx → Elt F e) :
    (owns (c : Thread nD τ) a fullShare X : sProp 𝕄) ⊢ iprop(((owns (c : Thread nD τ) a fullShare Y : sProp 𝕄) -∗ wp frame (wpE (defs₀ (F := F)) 𝒱₀ c none) E (k ⟨⟩) Q)
      -∗ wp frame (wpE (defs₀ (F := F)) 𝒱₀ c none) E (.op (.store a (Rect.unit off sh.size inb) Y Finset.univ hx hu) k) Q) :=
  Owned.store_owns 𝒱₀ (c : Thread nD τ) none E Q a ha hz inb Y hx hu k X

set_option maxHeartbeats 4000000 in
/-- The first part of a grid point: it puts the starting contents in place and computes the new maximum and sum. -/
theorem part1 (K : _ → sProp 𝕄) :
    iprop(held c a2 a3 a4 a5 a6 a7 a8 x t o m s u w
        ∗ (held c a2 a3 a4 a5 a6 a7 a8 x t (oStart i o) (start i k0_pay7 m) (start i k0_pay8 s) (start i k0_pay9 u) (start i k0_pay10 w)
            -∗ K ⟨BitVec.ofNat 32 (i 0).val, BitVec.ofNat 32 (i 1).val, x, k0_pay12 t, k0_pay13 i, k0_pay14 i,
                k0_pay16 i x (start i k0_pay7 m), k0_pay17 i x (start i k0_pay7 m) (start i k0_pay8 s)⟩))
      ⊢ wp frame (wpE (defs₀ (F := F)) 𝒱₀ c none) E (k0_part1 i a2 h2 a3 h3 a4 h4 a5 h5 a6 h6 a7 h7 a8 h8) K := by
  rw [k0_part1_eq_skeleton]; unfold k0_part1_skel held
  simp only [Prog.lift, Prog.bind_op, Prog.bind_ret]
  iintro ⟨⟨Hx, Ht, Ho, Hm, Hs, Hu, Hw⟩, Hk⟩
  unfold start oStart
  by_cases c1 : cond1 i = 1#1
  case' pos =>
    simp only [dif_pos c1, if_pos c1, Prog.bind_op, Prog.bind_ret]
    iapply (load_step c E _ a5 h5 zeros2 _ _ _ _) $$ Hm; iintro Hm
    iapply (store_step c E _ a5 h5 zeros2 _ _ _ _ _ _) $$ Hm; iintro Hm
    iapply (load_step c E _ a6 h6 zeros2 _ _ _ _) $$ Hs; iintro Hs
    iapply (store_step c E _ a6 h6 zeros2 _ _ _ _ _ _) $$ Hs; iintro Hs
    iapply (load_step c E _ a7 h7 zeros2 _ _ _ _) $$ Hu; iintro Hu
    iapply (store_step c E _ a7 h7 zeros2 _ _ _ _ _ _) $$ Hu; iintro Hu
    iapply (load_step c E _ a8 h8 zeros2 _ _ _ _) $$ Hw; iintro Hw
    iapply (store_step c E _ a8 h8 zeros2 _ _ _ _ _ _) $$ Hw; iintro Hw
  case' neg => simp only [dif_neg c1, if_neg c1, Prog.bind_op, Prog.bind_ret]
  all_goals by_cases c2 : k0_cond2 i = 1#1
  all_goals first
    | simp only [dif_neg c2, if_neg c2, Prog.bind_op, Prog.bind_ret]
    | simp only [dif_pos c2, if_pos c2, Prog.bind_op, Prog.bind_ret]
      iapply (load_step c E _ a4 h4 zeros2 _ _ _ _) $$ Ho; iintro Ho
      iapply (store_step c E _ a4 h4 zeros2 _ _ _ _ _ _) $$ Ho; iintro Ho
  all_goals
    iapply (load_step c E _ a2 h2 zeros2 _ _ _ _) $$ Hx; iintro Hx
    iapply (load_step c E _ a3 h3 zeros2 _ _ _ _) $$ Ht; iintro Ht
    iapply (load_step c E _ a5 h5 zeros2 _ _ _ _) $$ Hm; iintro Hm
    iapply (load_step c E _ a6 h6 zeros2 _ _ _ _) $$ Hs; iintro Hs
    iapply (load_step c E _ a6 h6 zeros2 _ _ _ _) $$ Hs; iintro Hs
    simp only [wp_pure]
    imodintro
    iapply Hk
    iframe

set_option maxHeartbeats 4000000 in
/-- A whole grid point: the blocks stay, the scratch buffers and the result take their next contents. -/
theorem point (K : PUnit → sProp 𝕄) :
    iprop(held c a2 a3 a4 a5 a6 a7 a8 x t o m s u w
        ∗ (held c a2 a3 a4 a5 a6 a7 a8 x t (oNext i (mNext i x m) (sNext i x m s) (uNext i x u) (wNext i x t w) o)
              (mNext i x m) (sNext i x m s) (uNext i x u) (wNext i x t w) -∗ K ⟨⟩))
      ⊢ wp frame (wpE (defs₀ (F := F)) 𝒱₀ c none) E (cc0__loss_kernel i a2 h2 a3 h3 a4 h4 a5 h5 a6 h6 a7 h7 a8 h8) K := by
  rw [cc0__loss_kernel_eq_skeleton]; unfold cc0__loss_kernel_skel
  iintro ⟨H, Hk⟩
  rw [wp_bind]
  iapply (part1 c E i a2 h2 a3 h3 a4 h4 a5 h5 a6 h6 a7 h7 a8 h8 x t o m s u w)
  isplitl [H]; · iexact H
  unfold held
  iintro ⟨Hx, Ht, Ho, Hm, Hs, Hu, Hw⟩
  simp only [Prog.lift, Prog.bind_op, Prog.bind_ret]
  iapply (store_step c E _ a6 h6 zeros2 _ _ _ _ _ _) $$ Hs; iintro Hs
  iapply (load_step c E _ a5 h5 zeros2 _ _ _ _) $$ Hm; iintro Hm
  iapply (store_step c E _ a5 h5 zeros2 _ _ _ _ _ _) $$ Hm; iintro Hm
  iapply (load_step c E _ a7 h7 zeros2 _ _ _ _) $$ Hu; iintro Hu
  iapply (load_step c E _ a7 h7 zeros2 _ _ _ _) $$ Hu; iintro Hu
  iapply (store_step c E _ a7 h7 zeros2 _ _ _ _ _ _) $$ Hu; iintro Hu
  iapply (load_step c E _ a8 h8 zeros2 _ _ _ _) $$ Hw; iintro Hw
  iapply (load_step c E _ a8 h8 zeros2 _ _ _ _) $$ Hw; iintro Hw
  iapply (store_step c E _ a8 h8 zeros2 _ _ _ _ _ _) $$ Hw; iintro Hw
  by_cases c3 : k0_cond3 i = 1#1
  case' neg =>
    rw [show oNext i (mNext i x m) (sNext i x m s) (uNext i x u) (wNext i x t w) o = oStart i o from if_neg c3]
    simp only [dif_neg c3, Prog.bind_op, Prog.bind_ret]
  case' pos =>
    rw [show oNext i (mNext i x m) (sNext i x m s) (uNext i x u) (wNext i x t w) o
      = oMore i (mNext i x m) (sNext i x m s) (uNext i x u) (wNext i x t w)
          (oLast i (mNext i x m) (sNext i x m s) (uNext i x u) (wNext i x t w) (oStart i o)) from if_pos c3]
    simp only [dif_pos c3, Prog.bind_op, Prog.bind_ret]
    unfold oMore oLast
    iapply (load_step c E _ a5 h5 zeros2 _ _ _ _) $$ Hm; iintro Hm
    iapply (load_step c E _ a6 h6 zeros2 _ _ _ _) $$ Hs; iintro Hs
    iapply (load_step c E _ a7 h7 zeros2 _ _ _ _) $$ Hu; iintro Hu
    iapply (load_step c E _ a8 h8 zeros2 _ _ _ _) $$ Hw; iintro Hw
    by_cases c4 : k0_cond4 i = 1#1
    all_goals first
      | simp only [dif_neg c4, if_neg c4, Prog.bind_op, Prog.bind_ret]
      | simp only [dif_pos c4, if_pos c4, Prog.bind_op, Prog.bind_ret]
        iapply (load_step c E _ a4 h4 zeros2 _ _ _ _) $$ Ho; iintro Ho
        iapply (load_step c E _ a4 h4 zeros2 _ _ _ _) $$ Ho; iintro Ho
        iapply (store_step c E _ a4 h4 zeros2 _ _ _ _ _ _) $$ Ho; iintro Ho
    all_goals by_cases c5 : k0_cond5 i = 1#1
    all_goals first
      | simp only [dif_neg c5, if_neg c5, Prog.bind_op, Prog.bind_ret]
      | simp only [dif_pos c5, if_pos c5, Prog.bind_op, Prog.bind_ret]
        iapply (load_step c E _ a4 h4 zeros2 _ _ _ _) $$ Ho; iintro Ho
        iapply (load_step c E _ a4 h4 zeros2 _ _ _ _) $$ Ho; iintro Ho
        iapply (store_step c E _ a4 h4 zeros2 _ _ _ _ _ _) $$ Ho; iintro Ho
  all_goals
    try simp only [wp_pure]
    imodintro
    iapply Hk
    unfold mNext sNext uNext wNext
    iframe

end Triples

end Cert.KernelIdeal.Body

end
-- ==== Proof.Data.lean ====
module

public import proofs.«01_k».proof.Proof.Body
public import proofs.«01_k».proof.Proof.Gen.KernelIdeal.Frame

@[expose] public section

noncomputable section

/-! The kernel's pipeline: what its staging buffers hold at each grid point, and the runs that leave the arguments as they were. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The input's block at a point as its staging buffer holds it, `d` where the block overhangs the array. -/
abbrev xAt (c : Dev nD) (t : Fin cfg0.N) (d : Vec F S128x12800 .f32) : Vec F S128x12800 .f32 :=
  win0_0.fill (grid0.coords t) d (iblk m c 0 t)

/-- The targets' block at a point. -/
abbrev tAt (c : Dev nD) (t : Fin cfg0.N) : Vec F S128x1 .i32 := iblk m c 1 t

/-- The pipeline's data: the input's and the targets' staging buffers keep their blocks, the result's holds `o`, and
    `Φ` holds between the points. -/
def data (o : Dev nD → Fin cfg0.N → Vec F S1x1 .f32) (Φ : Dev nD → Fin (cfg0.N + 1) → sProp 𝕄) (_ : Fin 1) (c : Dev nD) :
    Dat τ (Elt F) Unit ℕ (UR sig nD τ) ℕ cfg0 c where
  A w := V m c (Pipeline.arrRef spec0 w)
  after w t := match w with
    | ⟨0, _⟩ => xAt m c t (fun _ => Scalar.ofBits .f32 0#32)
    | ⟨1, _⟩ => tAt m c t
    | ⟨2, _⟩ => o c t
  Φ := Φ c
  q _ := fullShare
  owed _ := 0

variable (o : Dev nD → Fin cfg0.N → Vec F S1x1 .f32) (Φ : Dev nD → Fin (cfg0.N + 1) → sProp (MT nD τ sig Unit (Elt F) ℕ (UR sig nD τ) ℕ))

/-- The input's staging buffer holds its block before every point. -/
theorem before_x (c : Dev nD) (t : Fin cfg0.N) (d) : (data m o Φ 0 c).before (0 : Fin 3) t d = xAt m c t d := by
  unfold Dat.before; rw [if_pos (fetch0_0 t)]; rfl

/-- The targets' staging buffer holds its block before every point. -/
theorem before_t (c : Dev nD) (t : Fin cfg0.N) (d) : (data m o Φ 0 c).before (1 : Fin 3) t d = tAt m c t :=
  before0_1_of m (data m o Φ 0 c) rfl (fun _ => rfl) t d

/-- The four scratch buffers at given contents, and the generator's register at some value. -/
def scratch (c : Dev nD) (a b u w : Vec F S128x1 .f32) : sProp 𝕄 :=
  iprop((((c : Thread nD τ).loc cc0_scratch0) ↦{fullShare} (a : Buf (Elt F) ((c : Thread nD τ).loc cc0_scratch0)))
    ∗ (((c : Thread nD τ).loc cc0_scratch1) ↦{fullShare} (b : Buf (Elt F) ((c : Thread nD τ).loc cc0_scratch1)))
    ∗ (((c : Thread nD τ).loc cc0_scratch2) ↦{fullShare} (u : Buf (Elt F) ((c : Thread nD τ).loc cc0_scratch2)))
    ∗ (((c : Thread nD τ).loc cc0_scratch3) ↦{fullShare} (w : Buf (Elt F) ((c : Thread nD τ).loc cc0_scratch3)))
    ∗ ∃ r, prngReg c r)

/-- The region's own buffers are the scratch buffers at some contents. -/
theorem scratch_intro (c : Dev nD) : (ΦA spec0 c : sProp 𝕄) ⊢ iprop(∃ a b u w, scratch (F := F) c a b u w) := by
  unfold ΦA scratch; rw [scopedRest0_eq]
  iintro ⟨⟨⟨%a, Ha⟩, ⟨%b, Hb⟩, ⟨%u, Hu⟩, ⟨%w, Hw⟩⟩, Hr⟩
  iexists a, b, u, w
  iframe

/-- And the other way. -/
theorem scratch_elim (c : Dev nD) (a b u w : Vec F S128x1 .f32) : (scratch c a b u w : sProp 𝕄) ⊢ ΦA spec0 c := by
  unfold ΦA scratch; rw [scopedRest0_eq]
  iintro ⟨Ha, Hb, Hu, Hw, Hr⟩
  isplitr [Hr]
  · isplitl [Ha]; · iexists a; iexact Ha
    isplitl [Hb]; · iexists b; iexact Hb
    isplitl [Hu]; · iexists u; iexact Hu
    iexists w; iexact Hw
  · iexact Hr

/-- A grid point of the pipeline, from its staging buffers and the scratch buffers. -/
theorem point_pipe (c : Dev nD) (t : Fin cfg0.N) (x : Vec F S128x12800 .f32) (tt : Vec F S128x1 .i32) (q : Vec F S1x1 .f32) (a b u w : Vec F S128x1 .f32) (K : PUnit → sProp 𝕄) :
    iprop(scratch c a b u w ∗ owns (c : Thread nD τ) (st0_0 t) fullShare x ∗ owns (c : Thread nD τ) (st0_1 t) fullShare tt ∗ owns (c : Thread nD τ) (st0_2 t) fullShare q
        ∗ (scratch c (mNext (grid0.coords t) x a) (sNext (grid0.coords t) x a b) (uNext (grid0.coords t) x u) (wNext (grid0.coords t) x tt w)
            -∗ owns (c : Thread nD τ) (st0_0 t) fullShare x -∗ owns (c : Thread nD τ) (st0_1 t) fullShare tt
            -∗ owns (c : Thread nD τ) (st0_2 t) fullShare (oNext (grid0.coords t) (mNext (grid0.coords t) x a) (sNext (grid0.coords t) x a b) (uNext (grid0.coords t) x u) (wNext (grid0.coords t) x tt w) q)
            -∗ K ⟨⟩))
      ⊢ wp frame (wpE (defs₀ (F := F)) 𝒱₀ c none) Set.univ (bodyAt0 t) K := by
  unfold scratch
  iintro ⟨⟨Ha, Hb, Hu, Hw, Hr⟩, Hx, Ht, Hq, Hk⟩
  iapply (point c Set.univ (grid0.coords t) _ _ _ _ _ _ _ _ _ _ _ _ _ _ x tt q a b u w)
  unfold held
  rw [owns_whole, owns_whole, owns_whole, owns_whole, owns_whole, owns_whole, owns_whole, owns_whole]
  isplitr [Hk Hr]
  · iframe
  iintro ⟨Hx, Ht, Hq, Ha, Hb, Hu, Hw⟩
  iapply Hk $$ [Ha Hb Hu Hw Hr] Hx Ht Hq
  iframe

end Cert.KernelIdeal.Body

end
-- ==== Proof.Frames.lean ====
module

public import proofs.«01_k».proof.Proof.Data

@[expose] public section

noncomputable section

/-! The frame of the kernel: at any float values, every run ends with the arguments as they were and every semaphore at zero. -/

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The pipeline's data for the frame: the result's buffer is not stated, the scratch buffers hold anything. -/
def frameData : (p : Fin 1) → (c : Dev nD) → Dat τ (Elt F) Unit ℕ (UR sig nD τ) ℕ (cfgs p) c :=
  data m (fun _ _ _ => Scalar.ofBits .f32 0#32) (fun c _ => ΦA spec0 c)

/-- The window whose contents the frame does not state: the result's. -/
def unstated : Fin 3 → Bool
  | 0 => false
  | 1 => false
  | 2 => true

/-- The body's obligation for the frame. -/
theorem frame_body (c : Dev nD) : BodyObligationLoose (frameData m 0 c) (defs₀ (F := F)) 𝒱₀ () Set.univ unstated := fun t => by
  rw [bigSep_W0, bigSep_W0]
  simp only [unstated]
  rw [show (frameData m 0 c).owesAt () t.succ = (frameData m 0 c).owesAt () t.castSucc from rfl,
    show (frameData m 0 c).Φ t.succ = ΦA spec0 c from rfl, show (frameData m 0 c).Φ t.castSucc = ΦA spec0 c from rfl]
  iintro ⟨HΦ, Ho, ⟨%d0, H0⟩, ⟨%d1, H1⟩, ⟨%d2, H2⟩⟩
  ihave HΦ := (scratch_intro (F := F) c) $$ HΦ
  icases HΦ with ⟨%a, %b, %u, %w, HΦ⟩
  rw [show (frameData m 0 c).before (0 : Fin 3) t d0 = _ from before_x m _ _ c t d0, show (frameData m 0 c).before (1 : Fin 3) t d1 = _ from before_t m _ _ c t d1]
  iapply (point_pipe c t (xAt m c t d0) (tAt m c t) d2 a b u w _)
  isplitl [HΦ]; · iexact HΦ
  isplitl [H0]; · iexact H0
  isplitl [H1]; · iexact H1
  isplitl [H2]; · iexact H2
  iintro HΦ H0 H1 H2
  isplitl [HΦ]; · iapply (scratch_elim (F := F) c) $$ HΦ
  isplitl [Ho]; · iexact Ho
  isplitl [H0]
  · iexists d0
    change _ ⊢ owns (c : Thread nD τ) (st0_0 t) fullShare (win0_0.fill (grid0.coords t) d0 (win0_0.cut (grid0.coords t) (xAt m c t (fun _ => Scalar.ofBits .f32 0#32))))
    rw [show win0_0.cut (grid0.coords t) (xAt m c t (fun _ => Scalar.ofBits .f32 0#32)) = iblk m c 0 t from win0_0.cut_fill _ _ _]
  isplitl [H1]
  · iexact H1
  · iexists _; iexact H2

/-- The later host line writes the result only. -/
theorem tail_writes : ∀ ops ∈ ([hostOps1] : List (List (HloOp τ sig (Elt F)))), ∀ op ∈ ops, ∀ b : Ref sig .tc,
    Proc.devRef .tc b ∈ op.writes → b ∈ ({main_v2} : Finset (Ref sig .tc)) := by
  intro ops hops op hop b hb
  simp only [List.mem_cons, List.mem_nil_iff, or_false] at hops
  subst hops
  simp only [hostOps1, List.mem_cons, List.mem_nil_iff, or_false] at hop
  subst hop
  rw [StableHlo.reshape_writes, Finset.mem_singleton] at hb
  by_contra h
  exact StableHlo.devRef_ne_of_ne (fun e => h (by rw [e]; exact Finset.mem_singleton_self _)) hb

set_option backward.isDefEq.respectTransparency.types false in
/-- From any memory whose semaphores are zero, every run of the kernel ends, with both arguments as they were and every
    semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_frame_around_T_forget cfgs (frameData m) (0 : Fin 1) launch0 defs₀ 𝒱₀ unstated {main_v2} m ρ main
    (hbody := frame_body m)
    (hshare := fun c => (frameData m 0 c).share_full fun _ => rfl) (howed := fun _ _ => rfl)
    (V₀ := V0 m) (opss := [hostOps1]) (hsub := sfx_sub) (hfresh := sfx_fresh) (hkeep := sfx_keeps) (hT := tail_writes)
    (hmain := hmain m 𝒱₀) (hA := fun _ _ => rfl) (hΦ := fun _ _ => rfl)
    (Q' := fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0)
    (hQ' := fun r h => ⟨fun c => ⟨by
      have h0 := (h.1 c).1 0
      rw [Pipeline.RDat.ArrAt_in _ 0 rfl] at h0
      exact h0.trans (V_main_arg0 m c),
      ((h.1 c).2 main_arg1 (Finset.mem_sdiff.mpr ⟨Pipeline.mem_restRefs_of main_arg1 (by decide) (by decide), by decide⟩)).trans (V_main_arg1 m c)⟩, h.2⟩)

end Cert.KernelIdeal.Body

end
-- ==== Proof.KernelFrame.lean ====
module

public import proofs.«01_k».proof.Proof.Frames
public import proofs.«01_k».proof.Proof.Gen.Kernel

@[expose] public section

noncomputable section

/-! The frame of the kernel as it is written: naming its two constants changes nothing of how it runs. -/

namespace Cert.Kernel.Body

open Cert.Kernel Cert.Kernel.Gen
open Idealize.ShloMosaic Idealize.ShloMosaic.TcCoe
open Idealize.SL.Sem

/-- A named constant read as the word it is written with. -/
@[reducible] def asWritten (F : FTy → Type) [FloatOps F] : Named F where
  named _ _ {φ} b := Scalar.ofBits φ b

variable {F : FTy → Type} [FloatOps F]

/-- The kernel's body table is the named one's, its constants read as written. -/
theorem bodies_eq : (defs₀ : Defs nD τ sig (Elt F) Λ₀) = (letI := asWritten F; Cert.KernelIdeal.defs₀ (F := F)) := by
  unfold defs₀ Cert.KernelIdeal.defs₀
  refine congrArg Defs.onTc (funext fun l => ?_)
  match l with
  | 0 => rfl

/-- So is the program's. -/
theorem defs_eq : (defs : Defs nD τ sig (Elt F) _) = (letI := asWritten F; Cert.KernelIdeal.defs (F := F)) :=
  congrArg (Pipeline.defs (pcfgs (F := F))) bodies_eq

/-- From any memory whose semaphores are zero, every run of the kernel ends, with both arguments as they were and every
    semaphore at zero. -/
theorem frame_run (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) := by
  letI := asWritten F
  rw [defs_eq]
  exact Cert.KernelIdeal.Body.frame_run (F := F) m ρ

end Cert.Kernel.Body

end
-- ==== Proof.Blocks.lean ====
module

public import proofs.«01_k».proof.Proof.Data
public import proofs.«01_k».proof.Proof.Spec

@[expose] public section

noncomputable section

/-! The entries of the blocks that the pipeline stages, as entries of the arguments. -/

namespace Cert.KernelIdeal.Body

open Cert.KernelIdeal Cert.KernelIdeal.Gen
open Idealize.ShloMosaic Idealize.ShloMosaic.TcCoe

variable {F : FTy → Type} [FloatOps F] [Named F]

variable (m : (ℓ : Loc nD τ sig) → Buf (Elt F) ℓ)

/-- A grid point's coordinates are its row block and its column block. -/
theorem coords_val : ∀ t : Fin cfg0.N, (grid0.coords t 0).val = t.val / 8 ∧ (grid0.coords t 1).val = t.val % 8 :=
  (by decide : ∀ t : Fin 64, (grid0.coords t 0).val = t.val / 8 ∧ (grid0.coords t 1).val = t.val % 8)

theorem point_lt (t : Fin cfg0.N) : t.val < 64 := t.isLt

/-- The input's block index on the rows is the row block. -/
theorem transform_0 (t : Fin cfg0.N) : cc0_transform_0 (grid0.coords t) 0 = t.val / 8 := by
  show (BitVec.ofNat 32 (grid0.coords t 0).val).toNat = _
  rw [(coords_val t).1]
  exact Nat.mod_eq_of_lt (by have := point_lt t; omega)

/-- And on the columns the column block. -/
theorem transform_1 (t : Fin cfg0.N) : cc0_transform_0 (grid0.coords t) 1 = t.val % 8 := by
  show (BitVec.ofNat 32 (grid0.coords t 1).val).toNat = _
  rw [(coords_val t).2]
  exact Nat.mod_eq_of_lt (by have := point_lt t; omega)

/-- An entry of the input's block, in a column that the array has. -/
theorem xAt_apply (c : Dev nD) (t : Fin cfg0.N) (d : Vec F S128x12800 .f32) (r : Fin 128) (k : Fin 12800)
    (R : Fin 1024) (C : Fin 100000) (hR : R.val = 128 * (t.val / 8) + r.val) (hC : C.val = 12800 * (t.val % 8) + k.val) :
    xAt m c t d (ix2 r k) = (m ((c : Thread nD τ).loc main_arg0) : Vec F S1024x100000 .f32) (ix2 R C) := by
  have hm : win0_0.moved (grid0.coords t) (ix2 r k) = true := by
    rw [win0_0.moved_iff]
    intro a
    fin_cases a
    · show r.val < (Pipeline.Clip.of (cc0_transform_0 (grid0.coords t) 0) 128 1024).extent 128
      rw [transform_0]
      have := point_lt t
      have := r.isLt
      unfold Pipeline.Clip.of
      split <;> dsimp only [Pipeline.Clip.extent] <;> omega
    · show k.val < (Pipeline.Clip.of (cc0_transform_0 (grid0.coords t) 1) 12800 100000).extent 12800
      rw [transform_1]
      have := C.isLt
      have := k.isLt
      unfold Pipeline.Clip.of
      split <;> dsimp only [Pipeline.Clip.extent] <;> omega
  unfold xAt Pipeline.Window.fill
  rw [dif_pos hm]
  refine Eq.trans (congrArg (V m c main_arg0 : Vec F S1024x100000 .f32) (funext fun a => Fin.ext ?_)) (congrFun (V_main_arg0 m c) (ix2 R C))
  fin_cases a
  · show cc0_transform_0 (grid0.coords t) 0 * 128 + 1 * r.val = R.val
    rw [transform_0]; omega
  · show cc0_transform_0 (grid0.coords t) 1 * 12800 + 1 * k.val = C.val
    rw [transform_1]; omega

/-- An entry of the targets' block. -/
theorem tAt_apply (c : Dev nD) (t : Fin cfg0.N) (r : Fin 128)
    (R : Fin 1024) (hR : R.val = 128 * (t.val / 8) + r.val) :
    tAt m c t (ix2 r 0) = (m ((c : Thread nD τ).loc main_arg1) : IVec S1024 32) (ix1 R) := by
  have e : V m c main_v0 = shapeCast S1024x1 (m ((c : Thread nD τ).loc main_arg1) : IVec S1024 32) shapeCasts_S1024_S1024x1 := by
    rfl
  refine Eq.trans (congrArg (V m c main_v0 : Vec F S1024x1 .i32) (funext fun a => Fin.ext ?_) : _ = (V m c main_v0 : Vec F S1024x1 .i32) (ix2 R 0)) ?_
  · fin_cases a
    · show cc0_transform_1 (grid0.coords t) 0 * 128 + 1 * r.val = R.val
      have : cc0_transform_1 (grid0.coords t) 0 = t.val / 8 := transform_0 t
      rw [this]; omega
    · rfl
  · rw [e]
    simp only [pointwise]

end Cert.KernelIdeal.Body

end
-- ==== Proof.Online.lean ====
module

public import proofs.«01_k».proof.Proof.Blocks
public import Idealize.ShloMosaic.Lib.StableHlo.Predicate

@[expose] public section

noncomputable section

/-! One grid point's arithmetic at the ideal instance, row by row: what the four running quantities of a row become when a
    block of its columns is taken in. -/

namespace Cert.KernelIdeal.Online

open Cert.KernelIdeal Cert.KernelIdeal.Gen Cert.KernelIdeal.Body
open Idealize.ShloMosaic

/-- A family on the columns, carried on to all naturals by zero. -/
def ext {N : Nat} (f : Fin N → ℝ) (j : ℕ) : ℝ := if h : j < N then f ⟨j, h⟩ else 0

/-- The sum of a row's first `n` terms. -/
def upTo {N : Nat} (f : Fin N → ℝ) (n : ℕ) : ℝ := ∑ j ∈ Finset.range n, ext f j

theorem upTo_zero {N : Nat} (f : Fin N → ℝ) : upTo f 0 = 0 := Finset.sum_range_zero _

/-- The first `n + B` terms are the first `n` and the next `B`. -/
theorem upTo_add {N : Nat} (f : Fin N → ℝ) (n B : ℕ) : upTo f (n + B) = upTo f n + ∑ k : Fin B, ext f (n + k) := by
  unfold upTo
  rw [Finset.sum_range_add, Fin.sum_univ_eq_sum_range (fun k => ext f (n + k)) B]

/-- Past the last column the sum is the whole sum. -/
theorem upTo_all {N : Nat} (f : Fin N → ℝ) (n : ℕ) (h : N ≤ n) : upTo f n = ∑ j, f j := by
  obtain ⟨d, rfl⟩ := Nat.exists_eq_add_of_le h
  rw [upTo_add, Finset.sum_eq_zero (s := (Finset.univ : Finset (Fin d))) fun k _ => dif_neg (by omega), add_zero, upTo,
    ← Fin.sum_univ_eq_sum_range (fun k => ext f k) N]
  exact Finset.sum_congr rfl fun j _ => dif_pos j.isLt

/-- A rescaled sum of exponentials. -/
theorem upTo_exp {N : Nat} (y : Fin N → ℝ) (n : ℕ) (μ ν : ℝ) :
    upTo (fun j => Real.exp (y j - μ)) n * Real.exp (μ - ν) = upTo (fun j => Real.exp (y j - ν)) n := by
  unfold upTo
  rw [Finset.sum_mul]
  refine Finset.sum_congr rfl fun j _ => ?_
  unfold ext
  split
  · rw [← Real.exp_add]; congr 1; ring
  · rw [zero_mul]

/-- A maximum of reals and minus infinities, at least one of them real, is real. -/
theorem fold_max_some {ι : Type*} (s : Finset ι) (g : ι → EReal) (h1 : ∀ i ∈ s, g i ≠ ⊤) (h2 : ∃ i ∈ s, g i ≠ ⊥) :
    ∃ μ : ℝ, s.fold max (⊥ : EReal) g = (μ : EReal) := by
  have ht : s.fold max (⊥ : EReal) g ≠ ⊤ :=
    ((Finset.fold_max_lt (⊤ : EReal)).2 ⟨bot_lt_top, fun i hi => lt_top_iff_ne_top.2 (h1 i hi)⟩).ne
  have hb : s.fold max (⊥ : EReal) g ≠ ⊥ := by
    obtain ⟨i, hi, h⟩ := h2
    exact ((bot_lt_iff_ne_bot.2 h).trans_le ((Finset.le_fold_max (g i)).2 (.inr ⟨i, hi, le_rfl⟩))).ne'
  exact ⟨_, (EReal.coe_toReal ht hb).symm⟩

/-- A row's maximum over reals and minus infinities, at least one of them real, is real. -/
theorem rowMax_some {R N : Nat} (x : FVec Ideal ⟨2, ![R, N]⟩ .f32) (h : (⟨2, ![R, N]⟩ : Shape).Reduces [1] ⟨1, ![R]⟩) (hφ : FKind.Formats .f32)
    (hacc : 0xFF800000#32 = FKind.maximumf.neutral .f32 hφ) (r : Fin R) (h1 : ∀ k, x (ix2 r k) ≠ (⊤ : EReal)) (h2 : ∃ k, x (ix2 r k) ≠ (⊥ : EReal)) :
    ∃ μ : ℝ, multiReduction .maximumf [1] ⟨1, ![R]⟩ x 0xFF800000#32 h hφ hacc (ix1 r) = (μ : EReal) := by
  obtain ⟨μ, e⟩ := fold_max_some (Finset.univ : Finset (Fin N)) (fun k => x (ix2 r k)) (fun k _ => h1 k) (h2.imp fun k hk => ⟨Finset.mem_univ _, hk⟩)
  have hf : (x ∘ h.lift (ix1 r)) = fun k : Fin N => x (ix2 r k) := funext fun k => congrArg x (Spec.lift_row h r k)
  have h3 := Ideal.multiReduction_maximumf_single x 0xFF800000#32 h hφ hacc (ix1 r)
  rw [hf] at h3
  refine ⟨μ, h3.trans (Eq.trans ?_ e)⟩
  exact congrArg (fun b : EReal => (Finset.univ : Finset (Fin N)).fold max b fun k => x (ix2 r k)) Spec.ofBits_bot

variable (i : grid0.Coords)

/-- The number of the first column of a grid point's block. -/
def base : ℕ := 12800 * (i 1).val

theorem base_lt : base i ≤ 89600 := by
  have : (i 1).val < 8 := (i 1).isLt
  unfold base
  omega

/-- The column numbers of a block. -/
theorem cols_apply (r : Fin 128) (k : Fin 12800) : k0_pay13 i (ix2 r k) = BitVec.ofNat 32 (base i + k.val) := by
  have e : k0_pay13 i (ix2 r k) = BitVec.ofNat 32 (i 1).val * 12800#32 + BitVec.ofNat 32 k.val := by
    unfold k0_pay13
    pointwise
    rfl
  rw [e, show (12800#32 : BitVec 32) = BitVec.ofNat 32 12800 from rfl, ← BitVec.ofNat_mul, ← BitVec.ofNat_add, mul_comm]
  rfl

/-- The mask of the columns that the row has. -/
theorem mask_apply (r : Fin 128) (k : Fin 12800) : k0_pay14 i (ix2 r k) = if base i + k.val < 100000 then 1#1 else 0#1 := by
  have e : k0_pay14 i (ix2 r k) = IntOp.cmpi .slt (k0_pay13 i (ix2 r k)) 100000#32 := rfl
  have hb := base_lt i
  have hk := k.isLt
  have h : IntOp.cmpi .slt (k0_pay13 i (ix2 r k)) 100000#32 = 1#1 ↔ base i + k.val < 100000 := by
    rw [IntOp.cmpi_slt, cols_apply, StableHlo.Predicate.toInt_ofNat_small _ (by omega), show (100000#32 : BitVec 32).toInt = 100000 from by decide]
    omega
  rw [e]
  split
  · rename_i c; exact h.2 c
  · rename_i c
    exact (BitVec.eq_zero_or_eq_one _).resolve_right fun z => c (h.1 z)

/-- The comparison of a block's column numbers with a row's target. -/
theorem hit_apply (t : Fin 100000) (tt : IVec S128x1 32) (r : Fin 128) (ht : tt (ix2 r 0) = BitVec.ofNat 32 t.val) (k : Fin 12800) :
    IntOp.cmpi .eq (k0_pay13 i (ix2 r k)) (tt (ix2 r 0)) = if base i + k.val = t.val then 1#1 else 0#1 := by
  have hb := base_lt i
  have hk := k.isLt
  have htl := t.isLt
  have h : IntOp.cmpi .eq (k0_pay13 i (ix2 r k)) (tt (ix2 r 0)) = 1#1 ↔ base i + k.val = t.val := by
    rw [IntOp.cmpi_eq, cols_apply, ht]
    constructor
    · intro e
      have e2 := congrArg BitVec.toNat e
      rw [BitVec.toNat_ofNat, BitVec.toNat_ofNat] at e2
      omega
    · intro e; rw [e]
  split
  · rename_i c; exact h.2 c
  · rename_i c
    exact (BitVec.eq_zero_or_eq_one _).resolve_right fun z => c (h.1 z)

section Row

variable (y : Fin 100000 → ℝ) (x : FVec Ideal S128x12800 .f32) (r : Fin 128)
  (hx : ∀ k : Fin 12800, ∀ h : base i + k.val < 100000, x (ix2 r k) = ((y ⟨base i + k.val, h⟩ : ℝ) : EReal))

/-- A row sum of a block, spread over a column. -/
theorem colSum_apply (z : FVec Ideal S128x12800 .f32) : shapeCast S128x1 (multiReduction .add [1] S128 z 0x00000000#32 reduces_S128x12800_S128 (.inl rfl) rfl) shapeCasts_S128_S128x1 (ix2 r 0)
    = ∑ k : Fin 12800, z (ix2 r k) := by
  refine Eq.trans ?_ (Spec.rowSum_apply z reduces_S128x12800_S128 (.inl rfl) rfl r)
  simp only [pointwise]

include hx

/-- The block's entries, zero outside the row, are the row's. -/
theorem kept_apply (k : Fin 12800) : (select (k0_pay14 i) x (broadcast S128x12800 (Scalar.ofBits .f32 0x00000000#32)) : FVec Ideal S128x12800 .f32) (ix2 r k)
    = ((ext y (base i + k.val) : ℝ) : EReal) := by
  have e : (select (k0_pay14 i) x (broadcast S128x12800 (Scalar.ofBits .f32 0x00000000#32)) : FVec Ideal S128x12800 .f32) (ix2 r k)
      = if k0_pay14 i (ix2 r k) = 1#1 then x (ix2 r k) else Ideal.ofBits .f32 0x00000000#32 := rfl
  rw [e, mask_apply]
  unfold ext
  by_cases c : base i + k.val < 100000
  · rw [if_pos c, if_pos rfl, dif_pos c, hx k c]
  · rw [if_neg c, if_neg (by decide), dif_neg c, Ideal.ofBits_zero_f32]; rfl

/-- The running sum of entries takes in a block. -/
theorem sum_step (u : FVec Ideal S128x1 .f32) (hu : u (ix2 r 0) = ((upTo y (base i) : ℝ) : EReal)) :
    k0_pay2 (F := Ideal) x (k0_pay14 i) u (ix2 r 0) = ((upTo y (base i + 12800) : ℝ) : EReal) := by
  have e : k0_pay2 (F := Ideal) x (k0_pay14 i) u (ix2 r 0) = u (ix2 r 0) + ∑ k : Fin 12800,
      (select (k0_pay14 i) x (broadcast S128x12800 (Scalar.ofBits .f32 0x00000000#32)) : FVec Ideal S128x12800 .f32) (ix2 r k) := by
    rw [← colSum_apply r]
    unfold k0_pay2
    pointwise
  rw [e, hu, Finset.sum_congr rfl fun k _ => kept_apply i y x r hx k, Spec.coe_sum, upTo_add, EReal.coe_add]

/-- The running entry at the target takes in a block. -/
theorem hit_step (t : Fin 100000) (tt : IVec S128x1 32) (ht : tt (ix2 r 0) = BitVec.ofNat 32 t.val) (w : FVec Ideal S128x1 .f32)
    (hw : w (ix2 r 0) = ((upTo (fun j => if j = t then y j else 0) (base i) : ℝ) : EReal)) :
    k0_pay3 (F := Ideal) x tt (k0_pay13 i) w (ix2 r 0) = ((upTo (fun j => if j = t then y j else 0) (base i + 12800) : ℝ) : EReal) := by
  have e : k0_pay3 (F := Ideal) x tt (k0_pay13 i) w (ix2 r 0) = w (ix2 r 0) + ∑ k : Fin 12800,
      (select (cmpi .eq (k0_pay13 i) (broadcastTo S128x12800 tt broadcasts_S128x1_S128x12800)) x (broadcast S128x12800 (Scalar.ofBits .f32 0x00000000#32)) : FVec Ideal S128x12800 .f32) (ix2 r k) := by
    rw [← colSum_apply r]
    unfold k0_pay3
    pointwise
  have e2 : ∀ k : Fin 12800, (select (cmpi .eq (k0_pay13 i) (broadcastTo S128x12800 tt broadcasts_S128x1_S128x12800)) x (broadcast S128x12800 (Scalar.ofBits .f32 0x00000000#32)) : FVec Ideal S128x12800 .f32) (ix2 r k)
      = ((ext (fun j => if j = t then y j else 0) (base i + k.val) : ℝ) : EReal) := fun k => by
    have e3 : (select (cmpi .eq (k0_pay13 i) (broadcastTo S128x12800 tt broadcasts_S128x1_S128x12800)) x (broadcast S128x12800 (Scalar.ofBits .f32 0x00000000#32)) : FVec Ideal S128x12800 .f32) (ix2 r k)
        = if IntOp.cmpi .eq (k0_pay13 i (ix2 r k)) (tt (ix2 r 0)) = 1#1 then x (ix2 r k) else Ideal.ofBits .f32 0x00000000#32 := by
      pointwise
      rfl
    rw [e3, hit_apply i t tt r ht]
    unfold ext
    by_cases c : base i + k.val = t.val
    · have c' : base i + k.val < 100000 := by have := t.isLt; omega
      rw [if_pos c, if_pos rfl, dif_pos c', hx k c']; beta_reduce; rw [if_pos (Fin.ext c)]
    · rw [if_neg c, if_neg (by decide), Ideal.ofBits_zero_f32]
      split
      · beta_reduce; rw [if_neg fun z => c (congrArg Fin.val z)]; rfl
      · rfl
  rw [e, hw, Finset.sum_congr rfl fun k _ => e2 k, Spec.coe_sum, upTo_add, EReal.coe_add]

/-- The block's entries, minus infinity outside the row. -/
theorem masked_apply (k : Fin 12800) : k0_pay15 (F := Ideal) i x (ix2 r k) = if h : base i + k.val < 100000 then ((y ⟨base i + k.val, h⟩ : ℝ) : EReal) else ⊥ := by
  have e : k0_pay15 (F := Ideal) i x (ix2 r k) = if k0_pay14 i (ix2 r k) = 1#1 then x (ix2 r k) else Ideal.ofBits .f32 0xFF800000#32 := rfl
  rw [e, mask_apply]
  by_cases c : base i + k.val < 100000
  · rw [if_pos c, if_pos rfl, dif_pos c, hx k c]
  · rw [if_neg c, if_neg (by decide), dif_neg c, Spec.ofBits_bot]

/-- The running maximum becomes, or stays, real. -/
theorem max_step (m : FVec Ideal S128x1 .f32) (hm : m (ix2 r 0) ≠ (⊤ : EReal)) : ∃ μ : ℝ, k0_pay16 (F := Ideal) i x m (ix2 r 0) = (μ : EReal) := by
  have e : k0_pay16 (F := Ideal) i x m (ix2 r 0) = max (m (ix2 r 0)) (multiReduction .maximumf [1] S128 (k0_pay15 (F := Ideal) i x) 0xFF800000#32 reduces_S128x12800_S128 (.inl rfl) rfl (ix1 r)) := by
    unfold k0_pay16
    pointwise
  have hb := base_lt i
  obtain ⟨μ, hμ⟩ := rowMax_some (k0_pay15 (F := Ideal) i x) reduces_S128x12800_S128 (.inl rfl) rfl r
    (fun k => by rw [masked_apply i y x r hx]; split <;> simp)
    ⟨0, by rw [masked_apply i y x r hx, dif_pos (show base i + (0 : Fin 12800).val < 100000 by simp; omega)]; exact EReal.coe_ne_bot _⟩
  rw [e, hμ]
  have ht : max (m (ix2 r 0)) (μ : EReal) ≠ ⊤ := (max_lt (lt_top_iff_ne_top.2 hm) (EReal.coe_lt_top μ)).ne
  have hb : max (m (ix2 r 0)) (μ : EReal) ≠ ⊥ := ((EReal.bot_lt_coe μ).trans_le (le_max_right _ _)).ne'
  exact ⟨_, (EReal.coe_toReal ht hb).symm⟩

/-- The exponentials of a block's entries less a real, summed. -/
theorem exp_sum (m : FVec Ideal S128x1 .f32) (ν : ℝ) (hν : m (ix2 r 0) = (ν : EReal)) :
    ∑ k : Fin 12800, (exp (subf (k0_pay15 (F := Ideal) i x) (broadcastTo S128x12800 m broadcasts_S128x1_S128x12800)) : FVec Ideal S128x12800 .f32) (ix2 r k)
      = ((∑ k : Fin 12800, ext (fun j => Real.exp (y j - ν)) (base i + k.val) : ℝ) : EReal) := by
  rw [← Spec.coe_sum]
  refine Finset.sum_congr rfl fun k _ => ?_
  have e : (exp (subf (k0_pay15 (F := Ideal) i x) (broadcastTo S128x12800 m broadcasts_S128x1_S128x12800)) : FVec Ideal S128x12800 .f32) (ix2 r k)
      = Ideal.exp (k0_pay15 (F := Ideal) i x (ix2 r k) - m (ix2 r 0)) := by
    pointwise
  rw [e, masked_apply i y x r hx, hν]
  unfold ext
  by_cases c : base i + k.val < 100000
  · rw [dif_pos c, dif_pos c, ← EReal.coe_sub, Spec.exp_coe]
  · rw [dif_neg c, dif_neg c, EReal.bot_sub]
    rfl

/-- The running sum of exponentials takes in a block: from nothing, or from the sum over the columns so far less their maximum. -/
theorem exp_step (m s : FVec Ideal S128x1 .f32) (ν : ℝ) (hν : k0_pay16 (F := Ideal) i x m (ix2 r 0) = (ν : EReal))
    (h : (base i = 0 ∧ m (ix2 r 0) = (⊥ : EReal) ∧ s (ix2 r 0) = (0 : EReal))
      ∨ ∃ μ : ℝ, m (ix2 r 0) = (μ : EReal) ∧ s (ix2 r 0) = ((upTo (fun j => Real.exp (y j - μ)) (base i) : ℝ) : EReal)) :
    k0_pay17 (F := Ideal) i x m s (ix2 r 0) = ((upTo (fun j => Real.exp (y j - ν)) (base i + 12800) : ℝ) : EReal) := by
  have e : k0_pay17 (F := Ideal) i x m s (ix2 r 0) = s (ix2 r 0) * Ideal.exp (m (ix2 r 0) - k0_pay16 (F := Ideal) i x m (ix2 r 0))
      + ∑ k : Fin 12800, (exp (subf (k0_pay15 (F := Ideal) i x) (broadcastTo S128x12800 (k0_pay16 (F := Ideal) i x m) broadcasts_S128x1_S128x12800)) : FVec Ideal S128x12800 .f32) (ix2 r k) := by
    rw [← colSum_apply r]
    unfold k0_pay17
    pointwise
  rw [e, exp_sum i y x r hx _ ν hν, hν, upTo_add, EReal.coe_add]
  congr 1
  rcases h with ⟨h0, _, h2⟩ | ⟨μ, h1, h2⟩
  · rw [h0, h2, zero_mul, upTo_zero, EReal.coe_zero]
  · rw [h1, h2, ← EReal.coe_sub, Spec.exp_coe, ← EReal.coe_mul, upTo_exp]

end Row

end Cert.KernelIdeal.Online

end
-- ==== Proof.Rows.lean ====
module

public import proofs.«01_k».proof.Proof.Online

@[expose] public section

noncomputable section

/-! The kernel's running quantities through its grid at the ideal instance: row by row through a row block's columns, and the
    result through the row blocks. -/

namespace Cert.KernelIdeal.Online

open Cert.KernelIdeal Cert.KernelIdeal.Gen Cert.KernelIdeal.Body
open Idealize.ShloMosaic

/-- The entries of a row at its target, zero elsewhere. -/
abbrev atTarget {N : Nat} (y : Fin N → ℝ) (t : Fin N) : Fin N → ℝ := fun j => if j = t then y j else 0

/-- A row's four running quantities after its first `n` columns: its maximum (some real, once there are columns), its sum of
    exponentials less that maximum, its sum, and its entry at the target if that is among the columns. -/
def RowAt (y : Fin 100000 → ℝ) (t : Fin 100000) (n : ℕ) (m s u w : EReal) : Prop :=
  u = ((upTo y n : ℝ) : EReal) ∧ w = ((upTo (atTarget y t) n : ℝ) : EReal)
    ∧ ((n = 0 ∧ m = ⊥ ∧ s = 0) ∨ ∃ μ : ℝ, m = (μ : EReal) ∧ s = ((upTo (fun j => Real.exp (y j - μ)) n : ℝ) : EReal))

/-- At the end of its columns a row's loss is what the kernel computes of its four quantities. -/
theorem RowAt.loss {y : Fin 100000 → ℝ} {t : Fin 100000} {n : ℕ} (hn : 100000 ≤ n) {m s u w : EReal} (h : RowAt y t n m s u w) :
    m + Ideal.log s - ((1 / 1000000 : ℝ) : EReal) * u - ((9 / 10 : ℝ) : EReal) * w = ((Spec.lossRow y t : ℝ) : EReal) := by
  obtain ⟨rfl, rfl, ⟨h0, _⟩ | ⟨μ, rfl, rfl⟩⟩ := h
  · omega
  rw [upTo_all _ n hn, upTo_all _ n hn, upTo_all _ n hn, Spec.log_coe _ (Spec.sum_exp_pos fun j => y j - μ), Spec.log_sum_exp_sub,
    Finset.sum_ite_eq' Finset.univ t, if_pos (Finset.mem_univ _), ← EReal.coe_mul, ← EReal.coe_mul, ← EReal.coe_add, ← EReal.coe_sub, ← EReal.coe_sub, Spec.lossRow]
  congr 1
  ring

variable (i : grid0.Coords)

/-- A grid point starts a row block exactly if its block's first column is the first. -/
theorem cond1_iff : cond1 i = 1#1 ↔ base i = 0 := by
  have key : ∀ k : Fin 8, (Scalar.cmpi .ne (Scalar.extui (Scalar.cmpi .eq (BitVec.ofNat 32 k.val) 0#32) : BitVec 32) 0#32 : BitVec 1) = 1#1 ↔ 12800 * k.val = 0 := by decide
  exact key (i 1)

section Row

variable (y : Fin 100000 → ℝ) (t : Fin 100000) (x : FVec Ideal S128x12800 .f32) (tt : IVec S128x1 32) (r : Fin 128)
  (hx : ∀ k : Fin 12800, ∀ h : base i + k.val < 100000, x (ix2 r k) = ((y ⟨base i + k.val, h⟩ : ℝ) : EReal))
  (ht : tt (ix2 r 0) = BitVec.ofNat 32 t.val) (m s u w : FVec Ideal S128x1 .f32)

/-- The contents a grid point works from stand for the columns before its block. -/
theorem row_start (h : base i ≠ 0 → RowAt y t (base i) (m (ix2 r 0)) (s (ix2 r 0)) (u (ix2 r 0)) (w (ix2 r 0))) :
    RowAt y t (base i) (start (F := Ideal) i (k0_pay7 (F := Ideal)) m (ix2 r 0)) (start (F := Ideal) i (k0_pay8 (F := Ideal)) s (ix2 r 0)) (start (F := Ideal) i (k0_pay9 (F := Ideal)) u (ix2 r 0)) (start (F := Ideal) i (k0_pay10 (F := Ideal)) w (ix2 r 0)) := by
  unfold start
  by_cases c : cond1 i = 1#1
  · have z : base i = 0 := (cond1_iff i).1 c
    have h7 : k0_pay7 (F := Ideal) (ix2 r 0) = (⊥ : EReal) := Eq.trans (by unfold k0_pay7; rfl) Spec.ofBits_bot
    have h8 : k0_pay8 (F := Ideal) (ix2 r 0) = (0 : EReal) := Eq.trans (by unfold k0_pay8; rfl) Ideal.ofBits_zero_f32
    have h9 : k0_pay9 (F := Ideal) (ix2 r 0) = (0 : EReal) := Eq.trans (by unfold k0_pay9; rfl) Ideal.ofBits_zero_f32
    have h10 : k0_pay10 (F := Ideal) (ix2 r 0) = (0 : EReal) := Eq.trans (by unfold k0_pay10; rfl) Ideal.ofBits_zero_f32
    rw [if_pos c, if_pos c, if_pos c, if_pos c, h7, h8, h9, h10, z]
    exact ⟨by rw [upTo_zero]; rfl, by rw [upTo_zero]; rfl, .inl ⟨rfl, rfl, rfl⟩⟩
  · rw [if_neg c, if_neg c, if_neg c, if_neg c]
    exact h fun z => c ((cond1_iff i).2 z)

include hx ht

/-- A grid point takes its block's columns into every row. -/
theorem row_next (h : base i ≠ 0 → RowAt y t (base i) (m (ix2 r 0)) (s (ix2 r 0)) (u (ix2 r 0)) (w (ix2 r 0))) :
    RowAt y t (base i + 12800) (mNext (F := Ideal) i x m (ix2 r 0)) (sNext (F := Ideal) i x m s (ix2 r 0)) (uNext (F := Ideal) i x u (ix2 r 0)) (wNext (F := Ideal) i x tt w (ix2 r 0)) := by
  obtain ⟨hu, hw, hms⟩ := row_start i y t r m s u w h
  have hm : start (F := Ideal) i (k0_pay7 (F := Ideal)) m (ix2 r 0) ≠ (⊤ : EReal) := by
    rcases hms with ⟨_, e, _⟩ | ⟨μ, e, _⟩ <;> rw [e]
    · exact bot_ne_top
    · exact EReal.coe_ne_top μ
  obtain ⟨ν, hν⟩ := max_step i y x r hx _ hm
  have ht' : k0_pay12 (F := Ideal) tt (ix2 r 0) = BitVec.ofNat 32 t.val := by
    rw [← ht]
    unfold k0_pay12
    pointwise
  refine ⟨sum_step i y x r hx _ hu, hit_step i y x r hx t _ ht' _ hw, .inr ⟨ν, ?_, exp_step i y x r hx _ _ ν hν hms⟩⟩
  rw [← hν]
  unfold mNext k0_pay1
  pointwise

end Row

/-- The rows of a column vector, as its indices. -/
def colIdx (n : Nat) : Fin n ≃ (⟨2, ![n, 1]⟩ : Shape).Idx where
  toFun r := ix2 r 0
  invFun j := j 0
  left_inv _ := rfl
  right_inv j := by
    funext a
    fin_cases a
    · rfl
    · exact (Subsingleton.elim (α := Fin 1) _ _)

/-- A reshaped column vector summed to one number is its sum over the rows. -/
theorem total_col {n : Nat} {s t : Shape} {axes : List (Fin s.rank)} (v : FVec Ideal ⟨2, ![n, 1]⟩ .f32) (hc : (⟨2, ![n, 1]⟩ : Shape).ShapeCasts s)
    (h : s.Reduces axes t) (ht : ∀ b, t.size b = 1) (hφ : FKind.Formats .f32) (hacc : 0x00000000#32 = FKind.add.neutral .f32 hφ) (j : t.Idx) :
    multiReduction .add axes t (shapeCast s v hc) 0x00000000#32 h hφ hacc j = ∑ r : Fin n, v (ix2 r 0) := by
  rw [Ideal.multiReduction_add_total _ _ _ ht]
  exact (Equiv.sum_comp (Shape.reshapeEquiv hc) v).trans (Equiv.sum_comp (colIdx n) v).symm

variable (X : Fin 1024 → Fin 100000 → ℝ) (T : Fin 1024 → Fin 100000)

/-- The scratch buffers stand for the first `n` columns of the row block `b`. -/
def BlockAt (b n : ℕ) (m s u w : FVec Ideal S128x1 .f32) : Prop :=
  ∀ (r : Fin 128) (R : Fin 1024), R.val = 128 * b + r.val → RowAt (X R) (T R) n (m (ix2 r 0)) (s (ix2 r 0)) (u (ix2 r 0)) (w (ix2 r 0))

/-- The rows' losses, by row. -/
def rowLoss : Fin 1024 → ℝ := fun R => Spec.lossRow (X R) (T R)

/-- The sum of the losses of the first `b` row blocks. -/
def lossOf (b : ℕ) : ℝ := upTo (rowLoss X T) (128 * b)

/-- The losses of a block's rows, as the kernel computes them of its four scratch buffers. -/
def losses (m s u w : FVec Ideal S128x1 .f32) : FVec Ideal S128x1 .f32 :=
  subf (subf (addf m (log s)) (mulf (broadcast S128x1 (Named.named κ "smoothing" 0x358637BD#32)) u)) (mulf (broadcast S128x1 (Named.named κ "confidence" 0x3F666666#32)) w)

/-- Each is its row's loss. -/
theorem losses_apply (b : ℕ) (hb : b < 8) (m s u w : FVec Ideal S128x1 .f32) (h : BlockAt X T b 102400 m s u w) (r : Fin 128) :
    losses m s u w (ix2 r 0) = ((ext (rowLoss X T) (128 * b + r.val) : ℝ) : EReal) := by
  have hr := r.isLt
  have hR : 128 * b + r.val < 1024 := by omega
  rw [ext, dif_pos hR]
  refine Eq.trans ?_ ((h r ⟨_, hR⟩ rfl).loss (by omega))
  have n1 := IdealRules.named_const.ideal_named_scalar κ "smoothing" (φ := .f32) 0x358637BD#32 ((1 / 1000000 : ℝ) : EReal) rfl
  have n2 := IdealRules.named_const.ideal_named_scalar κ "confidence" (φ := .f32) 0x3F666666#32 ((9 / 10 : ℝ) : EReal) rfl
  have e : losses m s u w (ix2 r 0) = (m (ix2 r 0) + Ideal.log (s (ix2 r 0)) - Named.named (F := Ideal) κ "smoothing" 0x358637BD#32 * u (ix2 r 0)
    - Named.named (F := Ideal) κ "confidence" 0x3F666666#32 * w (ix2 r 0) : EReal) := rfl
  rw [e, n1, n2]

/-- What the kernel adds to the result at a row block's end is the sum of the losses. -/
theorem total_losses (m s u w : FVec Ideal S128x1 .f32) (j : S1x1.Idx) : k0_pay4 (F := Ideal) m s u w j = ∑ r : Fin 128, losses m s u w (ix2 r 0) := by
  refine Eq.trans ?_ (total_col (losses m s u w) shapeCasts_S128x1_S1x128x1 reduces_S1x128x1_S1 (by decide) (.inl rfl) rfl
    (Shape.reshapeEquiv shapeCasts_S1_S1x1x1 fun a => ⟨(![0, 0, 0] : Fin 3 → Nat) a, inpos_S1x1x1_p0_0_0 a⟩))
  unfold k0_pay4 losses
  rfl

/-- So it takes the block's rows into the sum of losses. -/
theorem blockLoss (b : ℕ) (hb : b < 8) (m s u w : FVec Ideal S128x1 .f32) (h : BlockAt X T b 102400 m s u w) (j : S1x1.Idx) :
    ((lossOf X T b : ℝ) : EReal) + k0_pay4 (F := Ideal) m s u w j = ((lossOf X T (b + 1) : ℝ) : EReal) := by
  rw [total_losses, Finset.sum_congr rfl fun r _ => losses_apply X T b hb m s u w h r, Spec.coe_sum, ← EReal.coe_add, lossOf, lossOf, Nat.mul_add, mul_one, upTo_add]

end Cert.KernelIdeal.Online

end
-- ==== Proof.KernelValue.lean ====
module

public import proofs.«01_k».proof.Proof.Rows

@[expose] public section

noncomputable section

/-! The kernel's value at the ideal instance: every run ends with the batch's loss in the result. -/

namespace Cert.KernelIdeal.Value

open Cert.KernelIdeal Cert.KernelIdeal.Gen Cert.KernelIdeal.Body Cert.KernelIdeal.Online
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose cellOf ΦA)

local notation "𝕄" => MT nD τ sig Unit (Elt Ideal) ℕ (UR sig nD τ) ℕ

variable (m : (ℓ : Loc nD τ sig) → Buf (Elt Ideal) ℓ) (ρ : Dev nD → PrngReg)
variable (X : Fin 1024 → Fin 100000 → ℝ) (T : Fin 1024 → Fin 100000)

section Back

variable {F : FTy → Type} [FloatOps F] [Named F] (m : (ℓ : Loc nD τ sig) → Buf (Elt F) ℓ) (o : Dev nD → Fin cfg0.N → Vec F S1x1 .f32)
  (Φ : Dev nD → Fin (cfg0.N + 1) → sProp (MT nD τ sig Unit (Elt F) ℕ (UR sig nD τ) ℕ))

/-- After a point the input's buffer is handed back with its block in it. -/
theorem in_back (c : Dev nD) (t : Fin cfg0.N) (d : Vec F S128x12800 .f32) :
    (owns (c : Thread nD τ) (st0_0 t) fullShare (xAt m c t d) : sProp (MT nD τ sig Unit (Elt F) ℕ (UR sig nD τ) ℕ)) ⊢ (data m o Φ 0 c).leaves (0 : Fin 3) t := by
  iintro H
  iexists d
  change _ ⊢ owns (c : Thread nD τ) (st0_0 t) fullShare (win0_0.fill (grid0.coords t) d (win0_0.cut (grid0.coords t) (xAt m c t (fun _ => Scalar.ofBits .f32 0#32))))
  rw [show win0_0.cut (grid0.coords t) (xAt m c t (fun _ => Scalar.ofBits .f32 0#32)) = iblk m c 0 t from win0_0.cut_fill _ _ _]

/-- And the targets' buffer with its block. -/
theorem tgt_back (c : Dev nD) (t : Fin cfg0.N) :
    (owns (c : Thread nD τ) (st0_1 t) fullShare (tAt m c t) : sProp (MT nD τ sig Unit (Elt F) ℕ (UR sig nD τ) ℕ)) ⊢ (data m o Φ 0 c).leaves (1 : Fin 3) t := by
  iintro H
  iexact H

end Back

/-- The result's staging buffer after a grid point: the losses of the row blocks ended so far, and at the end the loss. -/
def outAt (t : ℕ) : FVec Ideal S1x1 .f32 := fun _ => if t = 63 then ((Spec.loss X T : ℝ) : EReal) else ((lossOf X T ((t + 1) / 8) : ℝ) : EReal)

/-- The scratch buffers between two grid points: within a row block they stand for the columns so far. -/
def Between (k : ℕ) (a b u w : FVec Ideal S128x1 .f32) : Prop := k % 8 ≠ 0 → BlockAt X T (k / 8) (12800 * (k % 8)) a b u w

/-- The scratch buffers before the `k`-th grid point. -/
def inv (c : Dev nD) (k : ℕ) : sProp 𝕄 := iprop(∃ a b u w, scratch (F := Ideal) c a b u w ∗ ⌜Between X T k a b u w⌝)

/-- The pipeline's data for the value. -/
def valueData : (p : Fin 1) → (c : Dev nD) → Dat τ (Elt Ideal) Unit ℕ (UR sig nD τ) ℕ (cfgs p) c :=
  data m (fun _ t => outAt X T t.val) (fun c k => inv X T c k.val)

/-- When the kernel's four conditions on its grid point hold. -/
theorem conds : ∀ t : Fin cfg0.N, (k0_cond2 (grid0.coords t) = 1#1 ↔ t.val = 0) ∧ (k0_cond3 (grid0.coords t) = 1#1 ↔ t.val % 8 = 7)
    ∧ (k0_cond4 (grid0.coords t) = 1#1 ↔ t.val / 8 = 7) ∧ (k0_cond5 (grid0.coords t) = 1#1 ↔ t.val / 8 ≠ 7) :=
  (by decide : ∀ t : Fin 64, (k0_cond2 (grid0.coords t) = 1#1 ↔ t.val = 0) ∧ (k0_cond3 (grid0.coords t) = 1#1 ↔ t.val % 8 = 7)
    ∧ (k0_cond4 (grid0.coords t) = 1#1 ↔ t.val / 8 = 7) ∧ (k0_cond5 (grid0.coords t) = 1#1 ↔ t.val / 8 ≠ 7))

/-- The result's buffer is left alone except at the first point and at the row blocks' ends. -/
theorem idle_iff : ∀ t : Fin cfg0.N, cfg0.idle 2 (cfg0.grid.coords t) = decide (t.val ≠ 0 ∧ t.val % 8 ≠ 7) :=
  (by decide : ∀ t : Fin 64, idle0 2 (grid0.coords t) = decide (t.val ≠ 0 ∧ t.val % 8 ≠ 7))

/-- The result's block is never fetched, and written back at the end. -/
theorem no_flush (t : Fin cfg0.N) (h : t.val ≠ 63) : (cfg0.win 2).flush t = false := by
  have := point_lt t
  rw [Bool.eq_false_iff, ne_eq, flush0_2]
  omega

theorem no_fetch (t : Fin cfg0.N) : (cfg0.win 2).fetch t = false := rfl

/-- What the result's buffer keeps of a point that stores in it. -/
theorem kept_out (c : Dev nD) (t : Fin cfg0.N) (d) : (valueData m X T 0 c).kept (2 : Fin 3) t d = outAt X T t.val := by
  unfold Dat.kept
  rw [Pipeline.fill_of_clip_none (2 : Fin 3) (cfg0.grid.coords t) (fun _ => rfl) d ((valueData m X T 0 c).after (2 : Fin 3) t), Window.fill_cut]
  rfl

/-- What the result's buffer holds before a grid point, from the second on: what was left at the one before. -/
theorem before_out (c : Dev nD) (n : ℕ) : ∀ (h : n + 1 < 64) (d), (valueData m X T 0 c).before (2 : Fin 3) (⟨n + 1, h⟩ : Fin cfg0.N) d = outAt X T n := by
  induction n with
  | zero =>
    intro h d
    rw [(valueData m X T 0 c).before_of_pos (2 : Fin 3) ⟨1, h⟩ (by simp) (no_fetch _) d, if_neg (by rw [no_flush _ (by simp)]; simp)]
    unfold Dat.left
    rw [idle_iff]
    exact kept_out m X T c _ d
  | succ n ih =>
    intro h d
    rw [(valueData m X T 0 c).before_of_pos (2 : Fin 3) ⟨n + 1 + 1, h⟩ (by simp) (no_fetch _) d, if_neg (by rw [no_flush _ (by simp; omega)]; simp)]
    unfold Dat.left
    rw [idle_iff]
    by_cases e : (n + 1) % 8 ≠ 7
    · rw [decide_eq_true (show (n + 1 + 1 - 1 : ℕ) ≠ 0 ∧ (n + 1 + 1 - 1) % 8 ≠ 7 from ⟨by omega, e⟩)]
      refine (ih (by omega) d).trans ?_
      unfold outAt
      rw [if_neg (by omega), if_neg (by omega), show (n + 1 + 1) / 8 = (n + 1) / 8 by omega]
    · rw [decide_eq_false (show ¬((n + 1 + 1 - 1 : ℕ) ≠ 0 ∧ (n + 1 + 1 - 1) % 8 ≠ 7) from fun z => e z.2)]
      exact kept_out m X T c _ d

section Step

variable (t : Fin cfg0.N) (a b u w : FVec Ideal S128x1 .f32)

/-- The result's contents after a grid point, where before it they were what the point before left. -/
theorem out_next (q : FVec Ideal S1x1 .f32) (hq : t.val ≠ 0 → q = fun _ => ((lossOf X T (t.val / 8) : ℝ) : EReal))
    (h : t.val % 8 = 7 → BlockAt X T (t.val / 8) 102400 a b u w) : oNext (F := Ideal) (grid0.coords t) a b u w q = outAt X T t.val := by
  have ht := point_lt t
  obtain ⟨c2, c3, c4, c5⟩ := conds t
  have hs : oStart (F := Ideal) (grid0.coords t) q = fun _ => ((lossOf X T (t.val / 8) : ℝ) : EReal) := by
    unfold oStart
    by_cases z : t.val = 0
    · rw [if_pos (c2.2 z), z]
      funext j
      refine Eq.trans (b := Ideal.ofBits .f32 0x00000000#32) (by unfold k0_pay11; rfl) (Ideal.ofBits_zero_f32.trans ?_)
      rw [Nat.zero_div, lossOf, Nat.mul_zero, upTo_zero]
      rfl
    · rw [if_neg fun e => z (c2.1 e), hq z]
  unfold oNext
  rw [hs]
  unfold outAt
  by_cases z3 : t.val % 8 = 7
  · have hb := blockLoss X T (t.val / 8) (by omega) a b u w (h z3)
    rw [if_pos (c3.2 z3)]
    have h6 : k0_pay6 (F := Ideal) a b u w (fun _ => ((lossOf X T (t.val / 8) : ℝ) : EReal)) = fun _ => ((lossOf X T (t.val / 8 + 1) : ℝ) : EReal) :=
      funext fun j => by
        refine Eq.trans ?_ (hb j)
        unfold k0_pay6
        rfl
    unfold oMore oLast
    by_cases z4 : t.val / 8 = 7
    · rw [if_neg fun e => c5.1 e z4, if_pos (c4.2 z4), if_pos (by omega)]
      have h5 : k0_pay5 (F := Ideal) a b u w (fun _ => ((lossOf X T (t.val / 8) : ℝ) : EReal)) = fun j => k0_pay6 (F := Ideal) a b u w (fun _ => ((lossOf X T (t.val / 8) : ℝ) : EReal)) j * Ideal.ofBits .f32 0x3A800000#32 := by
        funext j
        unfold k0_pay5 k0_pay6
        rfl
      rw [h5, h6, z4, Spec.ofBits_inv1024]
      funext j
      rw [← EReal.coe_mul, Spec.loss, lossOf, upTo_all _ _ (by norm_num), mul_one_div]
      rfl
    · rw [if_pos (c5.2 z4), if_neg fun e => z4 (c4.1 e), if_neg (by omega), h6, show (t.val + 1) / 8 = t.val / 8 + 1 by omega]
  · rw [if_neg fun e => z3 (c3.1 e), if_neg (by omega), show (t.val + 1) / 8 = t.val / 8 by omega]

variable (hx : ∀ (c : Dev nD) r j, (m ((c : Thread nD τ).loc main_arg0) : FVec Ideal S1024x100000 .f32) (ix2 r j) = ((X r j : ℝ) : EReal))
  (ht : ∀ (c : Dev nD) r, (m ((c : Thread nD τ).loc main_arg1) : IVec S1024 32) (ix1 r) = BitVec.ofNat 32 (T r).val)

include hx ht

/-- A grid point takes its block's columns into the scratch buffers. -/
theorem block_next (c : Dev nD) (d : FVec Ideal S128x12800 .f32) (h : Between X T t.val a b u w) :
    BlockAt X T (t.val / 8) (12800 * (t.val % 8) + 12800) (mNext (F := Ideal) (grid0.coords t) (xAt m c t d) a) (sNext (F := Ideal) (grid0.coords t) (xAt m c t d) a b)
      (uNext (F := Ideal) (grid0.coords t) (xAt m c t d) u) (wNext (F := Ideal) (grid0.coords t) (xAt m c t d) (tAt m c t) w) := by
  intro r R hR
  have hb : base (grid0.coords t) = 12800 * (t.val % 8) := by unfold base; rw [(coords_val t).2]
  rw [← hb]
  refine row_next (grid0.coords t) (X R) (T R) (xAt m c t d) (tAt m c t) r (fun k hk => ?_) ((tAt_apply m c t r R hR).trans (ht c R)) a b u w fun z => ?_
  · exact (xAt_apply m c t d r k R ⟨_, hk⟩ hR (by show base (grid0.coords t) + k.val = _; rw [hb])).trans (hx c R _)
  · rw [hb] at z ⊢
    exact h (by omega) r R hR

end Step

variable (hx : ∀ (c : Dev nD) r j, (m ((c : Thread nD τ).loc main_arg0) : FVec Ideal S1024x100000 .f32) (ix2 r j) = ((X r j : ℝ) : EReal))
  (ht : ∀ (c : Dev nD) r, (m ((c : Thread nD τ).loc main_arg1) : IVec S1024 32) (ix1 r) = BitVec.ofNat 32 (T r).val)

/-- What the result's buffer holds before a point that is not the first, as the losses of the row blocks ended. -/
theorem before_loss (c : Dev nD) (t : Fin cfg0.N) (d) (h : t.val ≠ 0) :
    (valueData m X T 0 c).before (2 : Fin 3) t d = fun _ => ((lossOf X T (t.val / 8) : ℝ) : EReal) := by
  have hl := point_lt t
  obtain ⟨n, hn⟩ := Nat.exists_eq_succ_of_ne_zero h
  have e : t = (⟨n + 1, by omega⟩ : Fin cfg0.N) := Fin.ext hn
  rw [e, before_out m X T c n (by omega) d]
  unfold outAt
  rw [if_neg (by omega)]
  rfl

/-- After a point the result's buffer is handed back: as it was found where the point leaves it alone. -/
theorem out_back (c : Dev nD) (t : Fin cfg0.N) (d : FVec Ideal S1x1 .f32) : (owns (c : Thread nD τ) (st0_2 t) fullShare (outAt X T t.val) : sProp 𝕄)
    ⊢ (valueData m X T 0 c).leaves (2 : Fin 3) t := by
  by_cases z : t.val ≠ 0 ∧ t.val % 8 ≠ 7
  · rw [Dat.leaves_idle _ _ _ ((idle_iff t).trans (decide_eq_true z)) (no_flush t (by omega))]
    have e : (valueData m X T 0 c).before (2 : Fin 3) t d = outAt X T t.val := by
      rw [before_loss m X T c t d z.1]
      unfold outAt
      rw [if_neg (by omega), show (t.val + 1) / 8 = t.val / 8 by omega]
      rfl
    iintro H
    iexists d
    rw [e]
    iexact H
  · unfold Dat.leaves
    rw [(idle_iff t).trans (decide_eq_false z)]
    iintro H
    iexact H

include hx ht

/-- The body's obligation for the value. -/
theorem value_body (c : Dev nD) : BodyObligationLoose (valueData m X T 0 c) (defs₀ (F := Ideal)) 𝒱₀ () Set.univ := fun t => by
  rw [bigSep_W0, bigSep_W0]
  simp only
  rw [show (valueData m X T 0 c).owesAt () t.succ = (valueData m X T 0 c).owesAt () t.castSucc from rfl,
    show (valueData m X T 0 c).Φ t.succ = inv X T c (t.val + 1) from rfl, show (valueData m X T 0 c).Φ t.castSucc = inv X T c t.val from rfl]
  unfold inv
  iintro ⟨⟨%a, %b, %u, %w, HΦ, %hB⟩, Ho, ⟨%d0, H0⟩, ⟨%d1, H1⟩, ⟨%d2, H2⟩⟩
  rw [show (valueData m X T 0 c).before (0 : Fin 3) t d0 = _ from before_x m _ _ c t d0, show (valueData m X T 0 c).before (1 : Fin 3) t d1 = _ from before_t m _ _ c t d1]
  have hN := block_next m X T t a b u w hx ht c d0 hB
  have hO := out_next X T t _ _ _ _ ((valueData m X T 0 c).before (2 : Fin 3) t d2) (before_loss m X T c t d2) (fun z => by
    rw [z] at hN; exact hN)
  iapply (point_pipe c t (xAt m c t d0) (tAt m c t) ((valueData m X T 0 c).before (2 : Fin 3) t d2) a b u w _)
  isplitl [HΦ]; · iexact HΦ
  isplitl [H0]; · iexact H0
  isplitl [H1]; · iexact H1
  isplitl [H2]; · iexact H2
  iintro HΦ H0 H1 H2
  isplitl [HΦ]
  · iexists _, _, _, _
    isplitl [HΦ]; · iexact HΦ
    ipureintro
    intro z
    rw [show (t.val + 1) / 8 = t.val / 8 by omega, show 12800 * ((t.val + 1) % 8) = 12800 * (t.val % 8) + 12800 by omega]
    exact hN
  isplitl [Ho]; · iexact Ho
  isplitl [H0]
  · iapply (in_back m _ _ c t d0) $$ H0
  isplitl [H1]
  · iapply (tgt_back m _ _ c t) $$ H1
  · rw [hO]
    iapply (out_back m X T c t d2) $$ H2

omit hx ht in
/-- The result's array ends at the loss. -/
theorem arr_out (c : Dev nD) : (valueData m X T 0 c).arrAt (2 : Fin 3) cfg0.N = (fun _ => ((Spec.loss X T : ℝ) : EReal) : FVec Ideal S1x1 .f32) := by
  refine (valueData m X T 0 c).arrAt_eq_of_cover (2 : Fin 3) _ (fun t hf => ?_) fun i => ?_
  · have h63 : t.val = 63 := by
      have := (flush0_2 t).1 hf
      have := point_lt t
      omega
    funext j
    show outAt X T t.val (ix2 (0 : Fin 1) (0 : Fin 1)) = _
    unfold outAt
    rw [if_pos h63]
    rfl
  · have hf : (cfg0.win 2).flush (⟨63, by decide⟩ : Fin cfg0.N) = true := (flush0_2 _).2 rfl
    refine ⟨_, hf, ?_⟩
    have h := ((cfg0.win 2).blk (⟨63, by decide⟩ : Fin cfg0.N)).view.emb_mem_set (ix2 (0 : Fin 1) (0 : Fin 1))
    have one : ∀ a b : S1x1.Idx, a = b := fun a b => funext fun k => by
      fin_cases k <;> exact Subsingleton.elim (α := Fin 1) _ _
    exact (one _ i) ▸ h

omit hx ht in
/-- And the host's reshaped result likewise. -/
theorem tail_out (c : Dev nD) : Pipeline.afterTail₀ cfgs (valueData m X T) 0 (V0 m) [hostOps1] c main_v2 = (fun _ => ((Spec.loss X T : ℝ) : EReal) : FVec Ideal S_ .f32) := by
  unfold Pipeline.afterTail₀ hostOps1
  simp only [List.flatten_cons, List.flatten_nil, List.append_nil, List.cons_append, List.nil_append]
  change shapeCast S_ (Pipeline.withArrays spec0 c (V0 m c) (fun w => (valueData m X T 0 c).arrAt w cfg0.N) (Proc.devRef .tc main_v1) : FVec Ideal S1x1 .f32) shapeCasts_S1x1_S_ = _
  have h := (Pipeline.withArrays_arr spec0 (by decide) c (V0 m c) (fun w => (valueData m X T 0 c).arrAt w cfg0.N) (2 : Fin 3)).trans (arr_out m X T c)
  funext j
  exact congrFun h _

set_option backward.isDefEq.respectTransparency.types false in
/-- Every run of the kernel ends with the batch's loss in its result, and the arguments as they were. -/
theorem run : θ_run defs (onTc (τ := τ) (main (F := Ideal))) ⟨m, fun _ => 0, ρ⟩ (fun r => ∀ c : Dev nD,
      r.2.mem ((c.tc : Thread nD τ).loc main_v2) = (fun _ => ((Spec.loss X T : ℝ) : EReal) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_frame_around_track cfgs (valueData m X T) (0 : Fin 1) launch0 defs₀ 𝒱₀ m ρ main
    (hbody := value_body m X T hx ht)
    (hshare := fun c => (valueData m X T 0 c).share_full fun _ => rfl) (howed := fun _ _ => rfl)
    (V₀ := V0 m) (opss := [hostOps1]) (hsub := sfx_sub) (hfresh := sfx_fresh) (hkeep := sfx_keeps)
    (hmain := hmain m 𝒱₀) (hA := fun _ _ => rfl)
    (hin := fun c => by
      change ΦA spec0 c ⊢ inv X T c 0
      unfold inv
      iintro H
      ihave H := (scratch_intro (F := Ideal) c) $$ H
      icases H with ⟨%a, %b, %u, %w, H⟩
      iexists a, b, u, w
      isplitl [H]; · iexact H
      ipureintro
      intro z
      exact absurd rfl z)
    (hout := fun c => by
      change inv X T c 64 ⊢ _
      unfold inv
      iintro ⟨%a, %b, %u, %w, H, %h⟩
      iapply (scratch_elim (F := Ideal) c) $$ H)
    (Q' := fun r => ∀ c : Dev nD,
      r.2.mem ((c.tc : Thread nD τ).loc main_v2) = (fun _ => ((Spec.loss X T : ℝ) : EReal) : FVec Ideal S_ .f32)
      ∧ r.2.mem ((c.tc : Thread nD τ).loc main_arg0) = m ((c.tc : Thread nD τ).loc main_arg0)
      ∧ r.2.mem ((c.tc : Thread nD τ).loc main_arg1) = m ((c.tc : Thread nD τ).loc main_arg1))
    (hQ' := fun r h c => ⟨
      ((h.1 c).2 main_v2 (Pipeline.mem_restRefs_of main_v2 (by decide) (by decide))).trans (tail_out m X T c),
      ((h.1 c).1 0).trans (((valueData m X T 0 c).arrAt_in (0 : Fin 3) rfl _).trans (V_main_arg0 m c)),
      ((h.1 c).2 main_arg1 (Pipeline.mem_restRefs_of main_arg1 (by decide) (by decide))).trans (W_main_arg1 m (valueData m X T) c)⟩)

end Cert.KernelIdeal.Value

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pre
public import proofs.«01_k».proof.Proof.Decode
public import proofs.«01_k».proof.Proof.RefValue
public import proofs.«01_k».proof.Proof.KernelFrame
public import proofs.«01_k».proof.Proof.KernelValue
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Every run of the reference ends, with its arguments as they were and every semaphore at zero. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, sem_eq_zero_of_no_sems (by decide) r.2⟩) (Cert.ReferenceIdeal.Value.run m g)

/-- The two constants named are the ones the kernel was written with. -/
theorem constants_named : Cert.preserves_Kernel_KernelIdeal :=
  ⟨IdealRules.named_const.statement Cert.KernelIdeal.κ "smoothing" .f32 _ _ rfl, IdealRules.named_const.statement Cert.KernelIdeal.κ "confidence" .f32 _ _ rfl⟩

/-- On finite inputs and targets that are columns, the kernel and the reference end with the same loss. -/
theorem same_loss : Cert.algebraic_KernelIdeal_ReferenceIdeal_pre_pre (hKernelIdeal := Cert.KernelIdeal.Gen.facts) (hReferenceIdeal := Cert.ReferenceIdeal.Gen.facts)
    (hPre_pre := Cert.Pre_pre.Gen.facts) := fun m g m' g' hp he => by
  obtain ⟨X, hX⟩ := Cert.Decode.inputs _ _ (hp 0)
  obtain ⟨T, hT⟩ := Cert.Decode.targets _ _ (hp 0)
  have one : ∀ c : Dev Cert.KernelIdeal.nD, c = 0 := fun c => Subsingleton.elim (α := Fin 1) _ _
  have hx : ∀ (c : Dev Cert.KernelIdeal.nD) r j, (m ((c.tc : Thread Cert.KernelIdeal.nD Cert.KernelIdeal.τ).loc Cert.KernelIdeal.main_arg0) : FVec Ideal Cert.KernelIdeal.S1024x100000 .f32) (ix2 r j) = ((X r j : ℝ) : EReal) :=
    fun c => by rw [one c]; exact hX
  have ht : ∀ (c : Dev Cert.KernelIdeal.nD) r, (m ((c.tc : Thread Cert.KernelIdeal.nD Cert.KernelIdeal.τ).loc Cert.KernelIdeal.main_arg1) : IVec Cert.KernelIdeal.S1024 32) (ix1 r) = BitVec.ofNat 32 (T r).val :=
    fun c => by rw [one c]; exact hT
  refine ⟨fun _ => (fun _ => ((Cert.Spec.loss X T : ℝ) : EReal) : FVec Ideal Cert.KernelIdeal.S_ .f32), Cert.KernelIdeal.Value.run m g X T hx ht, ?_⟩
  have hv := Cert.RefValue.run m' g' X T (fun c r j => (congrFun (he c).1 _).trans (hx c r j)) (fun c r => (congrFun (he c).2 _).trans (ht c r))
  exact (θ_run _ _ _).mono (fun r h c => ⟨h.1 c, (h.2 c).2⟩) (θ_run_and hv (Cert.ReferenceIdeal.Value.run m' g'))

/-- All the claims. -/
theorem claim : Cert.Claim := ⟨Cert.Kernel.Gen.facts, Cert.KernelIdeal.Gen.facts, Cert.ReferenceIdeal.Gen.facts, Cert.Pre_pre.Gen.facts,
  fun m g _ => Cert.Kernel.Body.frame_run m g, fun m g _ => Cert.KernelIdeal.Body.frame_run m g, fun m g _ => Cert.KernelIdeal.Body.frame_run m g,
  fun m g _ => reference_frame m g, fun m g _ => reference_frame m g, constants_named, same_loss⟩

end Cert.Proof

end
